-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_clear [hKernelIdeal : Cert.KernelIdeal.Facts] [hReferenceIdeal : Cert.ReferenceIdeal.Facts] [hOn_clear : Cert.On_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![96, 9, 32, 32]⟩ : Shape).Idx, (Cert.On_clear.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v25) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![96, 9, 32, 32]⟩ : Shape).Idx, (Cert.On_clear.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v110) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_clear : Cert.On_clear.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear (hKernelIdeal := hKernelIdeal) (hReferenceIdeal := hReferenceIdeal) (hOn_clear := hOn_clear)
-- ==== On_clear.lean ====
abbrev S32x3x224x224 : Shape := ⟨4, ![32, 3, 224, 224]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S32x3x32x7x32x7 : Shape := ⟨6, ![32, 3, 32, 7, 32, 7]⟩
abbrev S32x3x32x32 : Shape := ⟨4, ![32, 3, 32, 32]⟩
abbrev S96x32x32 : Shape := ⟨3, ![96, 32, 32]⟩
abbrev S96x1x32x32 : Shape := ⟨4, ![96, 1, 32, 32]⟩
abbrev S96x9x32x32 : Shape := ⟨4, ![96, 9, 32, 32]⟩

class Facts : Prop where
  slices_S32x3x224x224_S32x3x1x224_0_0_0_0 : S32x3x224x224.Slices ![0, 0, 0, 0] S32x3x1x224
  slices_S32x3x224x224_S32x3x1x224_0_0_1_0 : S32x3x224x224.Slices ![0, 0, 1, 0] S32x3x1x224
  concatenates_S32x3x1x224_S32x3x224x224_S32x3x225x224_d2 : Shape.Concatenates [S32x3x1x224, S32x3x224x224] S32x3x225x224 2
  slices_S32x3x225x224_S32x3x1x224_0_0_224_0 : S32x3x225x224.Slices ![0, 0, 224, 0] S32x3x1x224
  slices_S32x3x225x224_S32x3x1x224_0_0_223_0 : S32x3x225x224.Slices ![0, 0, 223, 0] S32x3x1x224
  concatenates_S32x3x225x224_S32x3x1x224_S32x3x226x224_d2 : Shape.Concatenates [S32x3x225x224, S32x3x1x224] S32x3x226x224 2
  slices_S32x3x226x224_S32x3x226x1_0_0_0_0 : S32x3x226x224.Slices ![0, 0, 0, 0] S32x3x226x1
  slices_S32x3x226x224_S32x3x226x1_0_0_0_1 : S32x3x226x224.Slices ![0, 0, 0, 1] S32x3x226x1
  concatenates_S32x3x226x1_S32x3x226x224_S32x3x226x225_d3 : Shape.Concatenates [S32x3x226x1, S32x3x226x224] S32x3x226x225 3
  slices_S32x3x226x225_S32x3x226x1_0_0_0_224 : S32x3x226x225.Slices ![0, 0, 0, 224] S32x3x226x1
  slices_S32x3x226x225_S32x3x226x1_0_0_0_223 : S32x3x226x225.Slices ![0, 0, 0, 223] S32x3x226x1
  concatenates_S32x3x226x225_S32x3x226x1_S32x3x226x226_d3 : Shape.Concatenates [S32x3x226x225, S32x3x226x1] S32x3x226x226 3
  slices_S32x3x226x226_S32x3x224x224_0_0_0_0 : S32x3x226x226.Slices ![0, 0, 0, 0] S32x3x224x224
  bcast_S_S32x3x224x224 : S_.BroadcastsInDim S32x3x224x224 (![] : Fin 0 → Fin S32x3x224x224.rank)
  slices_S32x3x226x226_S32x3x224x224_0_0_0_2 : S32x3x226x226.Slices ![0, 0, 0, 2] S32x3x224x224
  slices_S32x3x226x226_S32x3x224x224_0_0_1_0 : S32x3x226x226.Slices ![0, 0, 1, 0] S32x3x224x224
  slices_S32x3x226x226_S32x3x224x224_0_0_1_2 : S32x3x226x226.Slices ![0, 0, 1, 2] S32x3x224x224
  slices_S32x3x226x226_S32x3x224x224_0_0_2_0 : S32x3x226x226.Slices ![0, 0, 2, 0] S32x3x224x224
  slices_S32x3x226x226_S32x3x224x224_0_0_2_2 : S32x3x226x226.Slices ![0, 0, 2, 2] S32x3x224x224
  slices_S32x3x226x226_S32x3x224x224_0_0_0_1 : S32x3x226x226.Slices ![0, 0, 0, 1] S32x3x224x224
  slices_S32x3x226x226_S32x3x224x224_0_0_2_1 : S32x3x226x226.Slices ![0, 0, 2, 1] S32x3x224x224
  shapeCasts_S32x3x224x224_S32x3x32x7x32x7 : S32x3x224x224.ShapeCasts S32x3x32x7x32x7
  reducesTo_S32x3x32x7x32x7_S32x3x32x32_d3_5 : S32x3x32x7x32x7.ReducesTo [3, 5] S32x3x32x32
  h_S_ : 0 < S_.numel
  shapeCasts_S32x3x32x32_S96x32x32 : S32x3x32x32.ShapeCasts S96x32x32
  bcast_S96x32x32_S96x1x32x32_0_2_3 : S96x32x32.BroadcastsInDim S96x1x32x32 (![0, 2, 3] : Fin 3 → Fin S96x1x32x32.rank)
  bcast_S96x1x32x32_S96x9x32x32_0_1_2_3 : S96x1x32x32.BroadcastsInDim S96x9x32x32 (![0, 1, 2, 3] : Fin 4 → Fin S96x9x32x32.rank)

variable [Facts]

def fn_flip {F : FTy → Type} [FloatOps F] (arg0 : FVec F S32x3x1x224 .f32) : FVec F S32x3x1x224 .f32 :=
  let v0 : FVec F S32x3x1x224 .f32 := Host.reverse [2] arg0
  v0

def fn_flip_0 {F : FTy → Type} [FloatOps F] (arg0 : FVec F S32x3x226x1 .f32) : FVec F S32x3x226x1 .f32 :=
  let v0 : FVec F S32x3x226x1 .f32 := Host.reverse [3] arg0
  v0

def fn_pad {F : FTy → Type} [FloatOps F] (arg0 : FVec F S32x3x224x224 .f32) (arg1 : IVec S_ 32) : FVec F S32x3x226x226 .f32 :=
  let v0 : FVec F S32x3x1x224 .f32 := (extractStridedSlice S32x3x1x224 ![0, 0, 0, 0] · slices_S32x3x224x224_S32x3x1x224_0_0_0_0) arg0
  let v1 : FVec F S32x3x1x224 .f32 := (extractStridedSlice S32x3x1x224 ![0, 0, 1, 0] · slices_S32x3x224x224_S32x3x1x224_0_0_1_0) arg0
  let v2 : FVec F S32x3x1x224 .f32 := fn_flip (F := F) v1
  let v3 : FVec F S32x3x225x224 .f32 := (fun a b => concatenate S32x3x225x224 2 [⟨S32x3x1x224, a⟩, ⟨S32x3x224x224, b⟩] concatenates_S32x3x1x224_S32x3x224x224_S32x3x225x224_d2) v2 arg0
  let v4 : FVec F S32x3x1x224 .f32 := (extractStridedSlice S32x3x1x224 ![0, 0, 224, 0] · slices_S32x3x225x224_S32x3x1x224_0_0_224_0) v3
  let v5 : FVec F S32x3x1x224 .f32 := (extractStridedSlice S32x3x1x224 ![0, 0, 223, 0] · slices_S32x3x225x224_S32x3x1x224_0_0_223_0) v3
  let v6 : FVec F S32x3x1x224 .f32 := fn_flip (F := F) v5
  let v7 : FVec F S32x3x226x224 .f32 := (fun a b => concatenate S32x3x226x224 2 [⟨S32x3x225x224, a⟩, ⟨S32x3x1x224, b⟩] concatenates_S32x3x225x224_S32x3x1x224_S32x3x226x224_d2) v3 v6
  let v8 : FVec F S32x3x226x1 .f32 := (extractStridedSlice S32x3x226x1 ![0, 0, 0, 0] · slices_S32x3x226x224_S32x3x226x1_0_0_0_0) v7
  let v9 : FVec F S32x3x226x1 .f32 := (extractStridedSlice S32x3x226x1 ![0, 0, 0, 1] · slices_S32x3x226x224_S32x3x226x1_0_0_0_1) v7
  let v10 : FVec F S32x3x226x1 .f32 := fn_flip_0 (F := F) v9
  let v11 : FVec F S32x3x226x225 .f32 := (fun a b => concatenate S32x3x226x225 3 [⟨S32x3x226x1, a⟩, ⟨S32x3x226x224, b⟩] concatenates_S32x3x226x1_S32x3x226x224_S32x3x226x225_d3) v10 v7
  let v12 : FVec F S32x3x226x1 .f32 := (extractStridedSlice S32x3x226x1 ![0, 0, 0, 224] · slices_S32x3x226x225_S32x3x226x1_0_0_0_224) v11
  let v13 : FVec F S32x3x226x1 .f32 := (extractStridedSlice S32x3x226x1 ![0, 0, 0, 223] · slices_S32x3x226x225_S32x3x226x1_0_0_0_223) v11
  let v14 : FVec F S32x3x226x1 .f32 := fn_flip_0 (F := F) v13
  let v15 : FVec F S32x3x226x226 .f32 := (fun a b => concatenate S32x3x226x226 3 [⟨S32x3x226x225, a⟩, ⟨S32x3x226x1, b⟩] concatenates_S32x3x226x225_S32x3x226x1_S32x3x226x226_d3) v11 v14
  v15

def fn_part5 {F : FTy → Type} [FloatOps F] (main_v52 : FVec F S32x3x224x224 .f32) (main_v87 : IVec S32x3x224x224 1) (main_v91 : FVec F S32x3x224x224 .f32) (main_cst_25 : FVec F S_ .f32) : IVec S96x9x32x32 1 :=
  let main_v92 : FVec F S32x3x224x224 .f32 := broadcastInDim S32x3x224x224 ![] bcast_S_S32x3x224x224 main_cst_25
  let main_v93 : FVec F S32x3x224x224 .f32 := mulf main_v92 main_v52
  let main_cst_26 : FVec F S_ .f32 := constant S_ .f32 0x34800000#32
  let main_v94 : FVec F S32x3x224x224 .f32 := broadcastInDim S32x3x224x224 ![] bcast_S_S32x3x224x224 main_cst_26
  let main_v95 : FVec F S32x3x224x224 .f32 := mulf main_v94 main_v93
  let main_v96 : IVec S32x3x224x224 1 := cmpf .oge main_v91 main_v95
  let main_v97 : IVec S32x3x224x224 1 := andi main_v87 main_v96
  let main_v98 : IVec S32x3x32x7x32x7 1 := shapeCast S32x3x32x7x32x7 main_v97 shapeCasts_S32x3x224x224_S32x3x32x7x32x7
  let main_c_27 : IVec S_ 1 := constantI S_ 1 1#1
  let main_v99 : IVec S32x3x32x32 1 := (fun x v => Host.reduce IntOp.andi x v reducesTo_S32x3x32x7x32x7_S32x3x32x32_d3_5 h_S_) main_v98 main_c_27
  let main_v100 : IVec S96x32x32 1 := shapeCast S96x32x32 main_v99 shapeCasts_S32x3x32x32_S96x32x32
  let main_v101 : IVec S96x1x32x32 1 := broadcastInDim S96x1x32x32 ![0, 2, 3] bcast_S96x32x32_S96x1x32x32_0_2_3 main_v100
  let main_v102 : IVec S96x9x32x32 1 := broadcastInDim S96x9x32x32 ![0, 1, 2, 3] bcast_S96x1x32x32_S96x9x32x32_0_1_2_3 main_v101
  main_v102

def fn_part4 {F : FTy → Type} [FloatOps F] (main_v51 : FVec F S32x3x224x224 .f32) (main_v52 : FVec F S32x3x224x224 .f32) (main_v67 : IVec S32x3x224x224 1) (main_v71 : FVec F S32x3x224x224 .f32) (main_v73 : FVec F S32x3x224x224 .f32) : IVec S96x9x32x32 1 :=
  let main_cst_20 : FVec F S_ .f32 := constant S_ .f32 0x34800000#32
  let main_v74 : FVec F S32x3x224x224 .f32 := broadcastInDim S32x3x224x224 ![] bcast_S_S32x3x224x224 main_cst_20
  let main_v75 : FVec F S32x3x224x224 .f32 := mulf main_v74 main_v73
  let main_v76 : IVec S32x3x224x224 1 := cmpf .oge main_v71 main_v75
  let main_v77 : IVec S32x3x224x224 1 := andi main_v67 main_v76
  let main_cst_21 : FVec F S_ .f32 := constant S_ .f32 0x3FDDB3D7#32
  let main_v78 : FVec F S32x3x224x224 .f32 := broadcastInDim S32x3x224x224 ![] bcast_S_S32x3x224x224 main_cst_21
  let main_v79 : FVec F S32x3x224x224 .f32 := mulf main_v78 main_v52
  let main_v80 : FVec F S32x3x224x224 .f32 := subf main_v51 main_v79
  let main_v81 : FVec F S32x3x224x224 .f32 := Host.absf main_v80
  let main_cst_22 : FVec F S_ .f32 := constant S_ .f32 0x3FDDB3D7#32
  let main_v82 : FVec F S32x3x224x224 .f32 := broadcastInDim S32x3x224x224 ![] bcast_S_S32x3x224x224 main_cst_22
  let main_v83 : FVec F S32x3x224x224 .f32 := mulf main_v82 main_v52
  let main_cst_23 : FVec F S_ .f32 := constant S_ .f32 0x34800000#32
  let main_v84 : FVec F S32x3x224x224 .f32 := broadcastInDim S32x3x224x224 ![] bcast_S_S32x3x224x224 main_cst_23
  let main_v85 : FVec F S32x3x224x224 .f32 := mulf main_v84 main_v83
  let main_v86 : IVec S32x3x224x224 1 := cmpf .oge main_v81 main_v85
  let main_v87 : IVec S32x3x224x224 1 := andi main_v77 main_v86
  let main_cst_24 : FVec F S_ .f32 := constant S_ .f32 0x40B57B24#32
  let main_v88 : FVec F S32x3x224x224 .f32 := broadcastInDim S32x3x224x224 ![] bcast_S_S32x3x224x224 main_cst_24
  let main_v89 : FVec F S32x3x224x224 .f32 := mulf main_v88 main_v52
  let main_v90 : FVec F S32x3x224x224 .f32 := subf main_v51 main_v89
  let main_v91 : FVec F S32x3x224x224 .f32 := Host.absf main_v90
  let main_cst_25 : FVec F S_ .f32 := constant S_ .f32 0x40B57B24#32
  fn_part5 (F := F) main_v52 main_v87 main_v91 main_cst_25

def fn_part3 {F : FTy → Type} [FloatOps F] (main_v51 : FVec F S32x3x224x224 .f32) (main_v52 : FVec F S32x3x224x224 .f32) (main_v54 : IVec S32x3x224x224 1) (main_cst_14 : FVec F S_ .f32) : IVec S96x9x32x32 1 :=
  let main_v55 : FVec F S32x3x224x224 .f32 := broadcastInDim S32x3x224x224 ![] bcast_S_S32x3x224x224 main_cst_14
  let main_v56 : IVec S32x3x224x224 1 := cmpf .olt main_v52 main_v55
  let main_v57 : IVec S32x3x224x224 1 := andi main_v54 main_v56
  let main_cst_15 : FVec F S_ .f32 := constant S_ .f32 0x3EBA5A4E#32
  let main_v58 : FVec F S32x3x224x224 .f32 := broadcastInDim S32x3x224x224 ![] bcast_S_S32x3x224x224 main_cst_15
  let main_v59 : FVec F S32x3x224x224 .f32 := mulf main_v58 main_v52
  let main_v60 : FVec F S32x3x224x224 .f32 := subf main_v51 main_v59
  let main_v61 : FVec F S32x3x224x224 .f32 := Host.absf main_v60
  let main_cst_16 : FVec F S_ .f32 := constant S_ .f32 0x3EBA5A4E#32
  let main_v62 : FVec F S32x3x224x224 .f32 := broadcastInDim S32x3x224x224 ![] bcast_S_S32x3x224x224 main_cst_16
  let main_v63 : FVec F S32x3x224x224 .f32 := mulf main_v62 main_v52
  let main_cst_17 : FVec F S_ .f32 := constant S_ .f32 0x34800000#32
  let main_v64 : FVec F S32x3x224x224 .f32 := broadcastInDim S32x3x224x224 ![] bcast_S_S32x3x224x224 main_cst_17
  let main_v65 : FVec F S32x3x224x224 .f32 := mulf main_v64 main_v63
  let main_v66 : IVec S32x3x224x224 1 := cmpf .oge main_v61 main_v65
  let main_v67 : IVec S32x3x224x224 1 := andi main_v57 main_v66
  let main_cst_18 : FVec F S_ .f32 := constant S_ .f32 0x3F56CF3C#32
  let main_v68 : FVec F S32x3x224x224 .f32 := broadcastInDim S32x3x224x224 ![] bcast_S_S32x3x224x224 main_cst_18
  let main_v69 : FVec F S32x3x224x224 .f32 := mulf main_v68 main_v52
  let main_v70 : FVec F S32x3x224x224 .f32 := subf main_v51 main_v69
  let main_v71 : FVec F S32x3x224x224 .f32 := Host.absf main_v70
  let main_cst_19 : FVec F S_ .f32 := constant S_ .f32 0x3F56CF3C#32
  let main_v72 : FVec F S32x3x224x224 .f32 := broadcastInDim S32x3x224x224 ![] bcast_S_S32x3x224x224 main_cst_19
  let main_v73 : FVec F S32x3x224x224 .f32 := mulf main_v72 main_v52
  fn_part4 (F := F) main_v51 main_v52 main_v67 main_v71 main_v73

def fn_part2 {F : FTy → Type} [FloatOps F] (main_v0 : FVec F S32x3x226x226 .f32) (main_v25 : FVec F S32x3x224x224 .f32) (main_v34 : FVec F S32x3x224x224 .f32) (main_v35 : FVec F S32x3x224x224 .f32) (main_cst_9 : FVec F S_ .f32) : IVec S96x9x32x32 1 :=
  let main_v36 : FVec F S32x3x224x224 .f32 := broadcastInDim S32x3x224x224 ![] bcast_S_S32x3x224x224 main_cst_9
  let main_v37 : FVec F S32x3x224x224 .f32 := mulf main_v36 main_v35
  let main_v38 : FVec F S32x3x224x224 .f32 := addf main_v34 main_v37
  let main_v39 : FVec F S32x3x224x224 .f32 := (extractStridedSlice S32x3x224x224 ![0, 0, 2, 0] · slices_S32x3x226x226_S32x3x224x224_0_0_2_0) main_v0
  let main_cst_10 : FVec F S_ .f32 := constant S_ .f32 0xBF800000#32
  let main_v40 : FVec F S32x3x224x224 .f32 := broadcastInDim S32x3x224x224 ![] bcast_S_S32x3x224x224 main_cst_10
  let main_v41 : FVec F S32x3x224x224 .f32 := mulf main_v40 main_v39
  let main_v42 : FVec F S32x3x224x224 .f32 := addf main_v38 main_v41
  let main_v43 : FVec F S32x3x224x224 .f32 := (extractStridedSlice S32x3x224x224 ![0, 0, 2, 1] · slices_S32x3x226x226_S32x3x224x224_0_0_2_1) main_v0
  let main_cst_11 : FVec F S_ .f32 := constant S_ .f32 0xC0000000#32
  let main_v44 : FVec F S32x3x224x224 .f32 := broadcastInDim S32x3x224x224 ![] bcast_S_S32x3x224x224 main_cst_11
  let main_v45 : FVec F S32x3x224x224 .f32 := mulf main_v44 main_v43
  let main_v46 : FVec F S32x3x224x224 .f32 := addf main_v42 main_v45
  let main_v47 : FVec F S32x3x224x224 .f32 := (extractStridedSlice S32x3x224x224 ![0, 0, 2, 2] · slices_S32x3x226x226_S32x3x224x224_0_0_2_2) main_v0
  let main_cst_12 : FVec F S_ .f32 := constant S_ .f32 0xBF800000#32
  let main_v48 : FVec F S32x3x224x224 .f32 := broadcastInDim S32x3x224x224 ![] bcast_S_S32x3x224x224 main_cst_12
  let main_v49 : FVec F S32x3x224x224 .f32 := mulf main_v48 main_v47
  let main_v50 : FVec F S32x3x224x224 .f32 := addf main_v46 main_v49
  let main_v51 : FVec F S32x3x224x224 .f32 := Host.absf main_v25
  let main_v52 : FVec F S32x3x224x224 .f32 := Host.absf main_v50
  let main_cst_13 : FVec F S_ .f32 := constant S_ .f32 0x7F800000#32
  let main_v53 : FVec F S32x3x224x224 .f32 := broadcastInDim S32x3x224x224 ![] bcast_S_S32x3x224x224 main_cst_13
  let main_v54 : IVec S32x3x224x224 1 := cmpf .olt main_v51 main_v53
  let main_cst_14 : FVec F S_ .f32 := constant S_ .f32 0x7F800000#32
  fn_part3 (F := F) main_v51 main_v52 main_v54 main_cst_14

def fn_part1 {F : FTy → Type} [FloatOps F] (main_v0 : FVec F S32x3x226x226 .f32) (main_v17 : FVec F S32x3x224x224 .f32) : IVec S96x9x32x32 1 :=
  let main_v18 : FVec F S32x3x224x224 .f32 := (extractStridedSlice S32x3x224x224 ![0, 0, 2, 0] · slices_S32x3x226x226_S32x3x224x224_0_0_2_0) main_v0
  let main_cst_4 : FVec F S_ .f32 := constant S_ .f32 0x3F800000#32
  let main_v19 : FVec F S32x3x224x224 .f32 := broadcastInDim S32x3x224x224 ![] bcast_S_S32x3x224x224 main_cst_4
  let main_v20 : FVec F S32x3x224x224 .f32 := mulf main_v19 main_v18
  let main_v21 : FVec F S32x3x224x224 .f32 := addf main_v17 main_v20
  let main_v22 : FVec F S32x3x224x224 .f32 := (extractStridedSlice S32x3x224x224 ![0, 0, 2, 2] · slices_S32x3x226x226_S32x3x224x224_0_0_2_2) main_v0
  let main_cst_5 : FVec F S_ .f32 := constant S_ .f32 0xBF800000#32
  let main_v23 : FVec F S32x3x224x224 .f32 := broadcastInDim S32x3x224x224 ![] bcast_S_S32x3x224x224 main_cst_5
  let main_v24 : FVec F S32x3x224x224 .f32 := mulf main_v23 main_v22
  let main_v25 : FVec F S32x3x224x224 .f32 := addf main_v21 main_v24
  let main_v26 : FVec F S32x3x224x224 .f32 := (extractStridedSlice S32x3x224x224 ![0, 0, 0, 0] · slices_S32x3x226x226_S32x3x224x224_0_0_0_0) main_v0
  let main_cst_6 : FVec F S_ .f32 := constant S_ .f32 0x3F800000#32
  let main_v27 : FVec F S32x3x224x224 .f32 := broadcastInDim S32x3x224x224 ![] bcast_S_S32x3x224x224 main_cst_6
  let main_v28 : FVec F S32x3x224x224 .f32 := mulf main_v27 main_v26
  let main_cst_7 : FVec F S_ .f32 := constant S_ .f32 0x00000000#32
  let main_v29 : FVec F S32x3x224x224 .f32 := broadcastInDim S32x3x224x224 ![] bcast_S_S32x3x224x224 main_cst_7
  let main_v30 : FVec F S32x3x224x224 .f32 := addf main_v29 main_v28
  let main_v31 : FVec F S32x3x224x224 .f32 := (extractStridedSlice S32x3x224x224 ![0, 0, 0, 1] · slices_S32x3x226x226_S32x3x224x224_0_0_0_1) main_v0
  let main_cst_8 : FVec F S_ .f32 := constant S_ .f32 0x40000000#32
  let main_v32 : FVec F S32x3x224x224 .f32 := broadcastInDim S32x3x224x224 ![] bcast_S_S32x3x224x224 main_cst_8
  let main_v33 : FVec F S32x3x224x224 .f32 := mulf main_v32 main_v31
  let main_v34 : FVec F S32x3x224x224 .f32 := addf main_v30 main_v33
  let main_v35 : FVec F S32x3x224x224 .f32 := (extractStridedSlice S32x3x224x224 ![0, 0, 0, 2] · slices_S32x3x226x226_S32x3x224x224_0_0_0_2) main_v0
  let main_cst_9 : FVec F S_ .f32 := constant S_ .f32 0x3F800000#32
  fn_part2 (F := F) main_v0 main_v25 main_v34 main_v35 main_cst_9

def fn {F : FTy → Type} [FloatOps F] (main_arg0 : FVec F S32x3x224x224 .f32) : IVec S96x9x32x32 1 :=
  let main_c : IVec S_ 32 := constantI S_ 32 0#32
  let main_v0 : FVec F S32x3x226x226 .f32 := fn_pad (F := F) main_arg0 main_c
  let main_v1 : FVec F S32x3x224x224 .f32 := (extractStridedSlice S32x3x224x224 ![0, 0, 0, 0] · slices_S32x3x226x226_S32x3x224x224_0_0_0_0) main_v0
  let main_cst : FVec F S_ .f32 := constant S_ .f32 0x3F800000#32
  let main_v2 : FVec F S32x3x224x224 .f32 := broadcastInDim S32x3x224x224 ![] bcast_S_S32x3x224x224 main_cst
  let main_v3 : FVec F S32x3x224x224 .f32 := mulf main_v2 main_v1
  let main_cst_0 : FVec F S_ .f32 := constant S_ .f32 0x00000000#32
  let main_v4 : FVec F S32x3x224x224 .f32 := broadcastInDim S32x3x224x224 ![] bcast_S_S32x3x224x224 main_cst_0
  let main_v5 : FVec F S32x3x224x224 .f32 := addf main_v4 main_v3
  let main_v6 : FVec F S32x3x224x224 .f32 := (extractStridedSlice S32x3x224x224 ![0, 0, 0, 2] · slices_S32x3x226x226_S32x3x224x224_0_0_0_2) main_v0
  let main_cst_1 : FVec F S_ .f32 := constant S_ .f32 0xBF800000#32
  let main_v7 : FVec F S32x3x224x224 .f32 := broadcastInDim S32x3x224x224 ![] bcast_S_S32x3x224x224 main_cst_1
  let main_v8 : FVec F S32x3x224x224 .f32 := mulf main_v7 main_v6
  let main_v9 : FVec F S32x3x224x224 .f32 := addf main_v5 main_v8
  let main_v10 : FVec F S32x3x224x224 .f32 := (extractStridedSlice S32x3x224x224 ![0, 0, 1, 0] · slices_S32x3x226x226_S32x3x224x224_0_0_1_0) main_v0
  let main_cst_2 : FVec F S_ .f32 := constant S_ .f32 0x40000000#32
  let main_v11 : FVec F S32x3x224x224 .f32 := broadcastInDim S32x3x224x224 ![] bcast_S_S32x3x224x224 main_cst_2
  let main_v12 : FVec F S32x3x224x224 .f32 := mulf main_v11 main_v10
  let main_v13 : FVec F S32x3x224x224 .f32 := addf main_v9 main_v12
  let main_v14 : FVec F S32x3x224x224 .f32 := (extractStridedSlice S32x3x224x224 ![0, 0, 1, 2] · slices_S32x3x226x226_S32x3x224x224_0_0_1_2) main_v0
  let main_cst_3 : FVec F S_ .f32 := constant S_ .f32 0xC0000000#32
  let main_v15 : FVec F S32x3x224x224 .f32 := broadcastInDim S32x3x224x224 ![] bcast_S_S32x3x224x224 main_cst_3
  let main_v16 : FVec F S32x3x224x224 .f32 := mulf main_v15 main_v14
  let main_v17 : FVec F S32x3x224x224 .f32 := addf main_v13 main_v16
  fn_part1 (F := F) main_v0 main_v17
-- ==== Kernel.lean ====
abbrev S32x3x224x224 : Shape := ⟨4, ![32, 3, 224, 224]⟩
abbrev S226x512 : Shape := ⟨2, ![226, 512]⟩
abbrev S32x224 : Shape := ⟨2, ![32, 224]⟩
abbrev S224x32 : Shape := ⟨2, ![224, 32]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S96x226x226 : Shape := ⟨3, ![96, 226, 226]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S14x16x14x16 : Shape := ⟨4, ![14, 16, 14, 16]⟩
abbrev S224x224 : Shape := ⟨2, ![224, 224]⟩
abbrev S96x9x32x32 : Shape := ⟨4, ![96, 9, 32, 32]⟩
abbrev S12x226x226 : Shape := ⟨3, ![12, 226, 226]⟩
abbrev S12x9x32x32 : Shape := ⟨4, ![12, 9, 32, 32]⟩
abbrev S1x226x226 : Shape := ⟨3, ![1, 226, 226]⟩
abbrev S226x226 : Shape := ⟨2, ![226, 226]⟩
abbrev S226x224 : Shape := ⟨2, ![226, 224]⟩
abbrev S32x32 : Shape := ⟨2, ![32, 32]⟩
abbrev S1x1x32x32 : Shape := ⟨4, ![1, 1, 32, 32]⟩

abbrev nBuf : Space → Nat
  | .hbm => 51
  | .vmem => 8
  | .smem => 0
  | _ => 0

abbrev bufTy : (tb : Table) → Fin (tcTables nBuf tb) → BufTy
  | .hbm, ⟨0, _⟩ => ⟨S32x3x224x224, .f32⟩
  | .hbm, ⟨1, _⟩ => ⟨S226x512, .bf16⟩
  | .hbm, ⟨2, _⟩ => ⟨S32x224, .f32⟩
  | .hbm, ⟨3, _⟩ => ⟨S224x32, .f32⟩
  | .hbm, ⟨4, _⟩ => ⟨S_, .i32⟩
  | .hbm, ⟨5, _⟩ => ⟨S32x3x1x224, .f32⟩
  | .hbm, ⟨6, _⟩ => ⟨S32x3x1x224, .f32⟩
  | .hbm, ⟨7, _⟩ => ⟨S32x3x1x224, .f32⟩
  | .hbm, ⟨8, _⟩ => ⟨S32x3x225x224, .f32⟩
  | .hbm, ⟨9, _⟩ => ⟨S32x3x1x224, .f32⟩
  | .hbm, ⟨10, _⟩ => ⟨S32x3x1x224, .f32⟩
  | .hbm, ⟨11, _⟩ => ⟨S32x3x1x224, .f32⟩
  | .hbm, ⟨12, _⟩ => ⟨S32x3x226x224, .f32⟩
  | .hbm, ⟨13, _⟩ => ⟨S32x3x226x1, .f32⟩
  | .hbm, ⟨14, _⟩ => ⟨S32x3x226x1, .f32⟩
  | .hbm, ⟨15, _⟩ => ⟨S32x3x226x1, .f32⟩
  | .hbm, ⟨16, _⟩ => ⟨S32x3x226x225, .f32⟩
  | .hbm, ⟨17, _⟩ => ⟨S32x3x226x1, .f32⟩
  | .hbm, ⟨18, _⟩ => ⟨S32x3x226x1, .f32⟩
  | .hbm, ⟨19, _⟩ => ⟨S32x3x226x1, .f32⟩
  | .hbm, ⟨20, _⟩ => ⟨S32x3x226x226, .f32⟩
  | .hbm, ⟨21, _⟩ => ⟨S96x226x226, .f32⟩
  | .hbm, ⟨22, _⟩ => ⟨S96x226x226, .bf16⟩
  | .hbm, ⟨23, _⟩ => ⟨S16, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S16x1, .f32⟩
  | .hbm, ⟨39, _⟩ => ⟨S1x16, .f32⟩
  | .hbm, ⟨40, _⟩ => ⟨S16x16, .f32⟩
  | .hbm, ⟨41, _⟩ => ⟨S16x16, .f32⟩
  | .hbm, ⟨42, _⟩ => ⟨S16x16, .f32⟩
  | .hbm, ⟨43, _⟩ => ⟨S_, .f32⟩
  | .hbm, ⟨44, _⟩ => ⟨S_, .f32⟩
  | .hbm, ⟨45, _⟩ => ⟨S16x16, .f32⟩
  | .hbm, ⟨46, _⟩ => ⟨S16x16, .f32⟩
  | .hbm, ⟨47, _⟩ => ⟨S1x16x1x16, .f32⟩
  | .hbm, ⟨48, _⟩ => ⟨S14x16x14x16, .f32⟩
  | .hbm, ⟨49, _⟩ => ⟨S224x224, .f32⟩
  | .hbm, ⟨50, _⟩ => ⟨S96x9x32x32, .f32⟩
  | .local _ .vmem, ⟨0, _⟩ => ⟨S12x226x226, .bf16⟩
  | .local _ .vmem, ⟨1, _⟩ => ⟨S12x226x226, .bf16⟩
  | .local _ .vmem, ⟨2, _⟩ => ⟨S226x512, .bf16⟩
  | .local _ .vmem, ⟨3, _⟩ => ⟨S224x224, .f32⟩
  | .local _ .vmem, ⟨4, _⟩ => ⟨S32x224, .f32⟩
  | .local _ .vmem, ⟨5, _⟩ => ⟨S224x32, .f32⟩
  | .local _ .vmem, ⟨6, _⟩ => ⟨S12x9x32x32, .f32⟩
  | .local _ .vmem, ⟨7, _⟩ => ⟨S12x9x32x32, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_2 : Ref sig .tc := ⟨.hbm, 24, rfl⟩
abbrev main_v4 : Ref sig .tc := ⟨.hbm, 25, rfl⟩
abbrev main_cst_3 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S12x226x226 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S226x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S224x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S12x9x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x3x224x224 : Shape := ⟨4, ![32, 3, 224, 224]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S14x16x14x16 : Shape := ⟨4, ![14, 16, 14, 16]⟩
abbrev S224x224 : Shape := ⟨2, ![224, 224]⟩
abbrev S1x1x224x224 : Shape := ⟨4, ![1, 1, 224, 224]⟩
abbrev S32x3x1x224x224 : Shape := ⟨5, ![32, 3, 1, 224, 224]⟩
abbrev S9 : Shape := ⟨1, ![9]⟩
abbrev S1x1x9x1x1 : Shape := ⟨5, ![1, 1, 9, 1, 1]⟩
abbrev S32x3x9x224x224 : Shape := ⟨5, ![32, 3, 9, 224, 224]⟩
abbrev S32x3x9x32x7x32x7 : Shape := ⟨7, ![32, 3, 9, 32, 7, 32, 7]⟩
abbrev S32x3x9x32x32 : Shape := ⟨5, ![32, 3, 9, 32, 32]⟩
abbrev S32x3x32x32 : Shape := ⟨4, ![32, 3, 32, 32]⟩
abbrev S32x3x1x32x32 : Shape := ⟨5, ![32, 3, 1, 32, 32]⟩
abbrev S96x9x32x32 : Shape := ⟨4, ![96, 9, 32, 32]⟩

abbrev nBuf : Space → Nat
  | .hbm => 174
  | .vmem => 0
  | .smem => 0
  | _ => 0

abbrev hbmTy0_0 (i : Nat) : BufTy := match i % 128 with
  | 0 => ⟨S32x3x224x224, .f32⟩
  | 1 => ⟨S_, .i32⟩
  | 2 => ⟨S32x3x1x224, .f32⟩
  | 3 => ⟨S32x3x1x224, .f32⟩
  | 4 => ⟨S32x3x1x224, .f32⟩
  | 5 => ⟨S32x3x225x224, .f32⟩
  | 6 => ⟨S32x3x1x224, .f32⟩
  | 7 => ⟨S32x3x1x224, .f32⟩
  | 8 => ⟨S32x3x1x224, .f32⟩
  | 9 => ⟨S32x3x226x224, .f32⟩
  | 10 => ⟨S32x3x226x1, .f32⟩
  | 11 => ⟨S32x3x226x1, .f32⟩
  | 12 => ⟨S32x3x226x1, .f32⟩
  | 13 => ⟨S32x3x226x225, .f32⟩
  | 14 => ⟨S32x3x226x1, .f32⟩
  | 15 => ⟨S32x3x226x1, .f32⟩
  | 16 => ⟨S32x3x226x1, .f32⟩
  | 17 => ⟨S32x3x226x226, .f32⟩
  | 18 => ⟨S32x3x224x224, .f32⟩
  | 19 => ⟨S_, .f32⟩
  | 20 => ⟨S32x3x224x224, .f32⟩
  | 21 => ⟨S32x3x224x224, .f32⟩
  | 22 => ⟨S_, .f32⟩
  | 23 => ⟨S32x3x224x224, .f32⟩
  | 24 => ⟨S32x3x224x224, .f32⟩
  | 25 => ⟨S32x3x224x224, .f32⟩
  | 26 => ⟨S_, .f32⟩
  | 27 => ⟨S32x3x224x224, .f32⟩
  | 28 => ⟨S32x3x224x224, .f32⟩
  | 29 => ⟨S32x3x224x224, .f32⟩
  | 30 => ⟨S32x3x224x224, .f32⟩
  | 31 => ⟨S_, .f32⟩
  | 32 => ⟨S32x3x224x224, .f32⟩
  | 33 => ⟨S32x3x224x224, .f32⟩
  | 34 => ⟨S32x3x224x224, .f32⟩
  | 35 => ⟨S32x3x224x224, .f32⟩
  | 36 => ⟨S_, .f32⟩
  | 37 => ⟨S32x3x224x224, .f32⟩
  | 38 => ⟨S32x3x224x224, .f32⟩
  | 39 => ⟨S32x3x224x224, .f32⟩
  | 40 => ⟨S32x3x224x224, .f32⟩
  | 41 => ⟨S_, .f32⟩
  | 42 => ⟨S32x3x224x224, .f32⟩
  | 43 => ⟨S32x3x224x224, .f32⟩
  | 44 => ⟨S32x3x224x224, .f32⟩
  | 45 => ⟨S32x3x224x224, .f32⟩
  | 46 => ⟨S_, .f32⟩
  | 47 => ⟨S32x3x224x224, .f32⟩
  | 48 => ⟨S32x3x224x224, .f32⟩
  | 49 => ⟨S32x3x224x224, .f32⟩
  | 50 => ⟨S32x3x224x224, .f32⟩
  | 51 => ⟨S_, .f32⟩
  | 52 => ⟨S32x3x224x224, .f32⟩
  | 53 => ⟨S32x3x224x224, .f32⟩
  | 54 => ⟨S_, .f32⟩
  | 55 => ⟨S32x3x224x224, .f32⟩
  | 56 => ⟨S32x3x224x224, .f32⟩
  | 57 => ⟨S32x3x224x224, .f32⟩
  | 58 => ⟨S_, .f32⟩
  | 59 => ⟨S32x3x224x224, .f32⟩
  | 60 => ⟨S32x3x224x224, .f32⟩
  | 61 => ⟨S32x3x224x224, .f32⟩
  | 62 => ⟨S32x3x224x224, .f32⟩
  | 63 => ⟨S_, .f32⟩
  | 64 => ⟨S32x3x224x224, .f32⟩
  | 65 => ⟨S32x3x224x224, .f32⟩
  | 66 => ⟨S32x3x224x224, .f32⟩
  | 67 => ⟨S32x3x224x224, .f32⟩
  | 68 => ⟨S_, .f32⟩
  | 69 => ⟨S32x3x224x224, .f32⟩
  | 70 => ⟨S32x3x224x224, .f32⟩
  | 71 => ⟨S32x3x224x224, .f32⟩
  | 72 => ⟨S32x3x224x224, .f32⟩
  | 73 => ⟨S_, .f32⟩
  | 74 => ⟨S32x3x224x224, .f32⟩
  | 75 => ⟨S32x3x224x224, .f32⟩
  | 76 => ⟨S32x3x224x224, .f32⟩
  | 77 => ⟨S32x3x224x224, .f32⟩
  | 78 => ⟨S_, .f32⟩
  | 79 => ⟨S32x3x224x224, .f32⟩
  | 80 => ⟨S32x3x224x224, .f32⟩
  | 81 => ⟨S32x3x224x224, .f32⟩
  | 82 => ⟨S32x3x224x224, .f32⟩
  | 83 => ⟨S32x3x224x224, .f32⟩
  | 84 => ⟨S32x3x224x224, .f32⟩
  | 85 => ⟨S32x3x224x224, .f32⟩
  | 86 => ⟨S_, .f32⟩
  | 87 => ⟨S_, .f32⟩
  | 88 => ⟨S_, .f32⟩
  | 89 => ⟨S32x3x224x224, .f32⟩
  | 90 => ⟨S_, .f32⟩
  | 91 => ⟨S32x3x224x224, .f32⟩
  | 92 => ⟨S32x3x224x224, .f32⟩
  | 93 => ⟨S_, .f32⟩
  | 94 => ⟨S32x3x224x224, .f32⟩
  | 95 => ⟨S32x3x224x224, .f32⟩
  | 96 => ⟨S32x3x224x224, .f32⟩
  | 97 => ⟨S32x3x224x224, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S32x3x224x224, .i32⟩
  | 105 => ⟨S32x3x224x224, .i32⟩
  | 106 => ⟨S_, .i32⟩
  | 107 => ⟨S32x3x224x224, .i32⟩
  | 108 => ⟨S32x3x224x224, .i1⟩
  | 109 => ⟨S_, .i32⟩
  | 110 => ⟨S32x3x224x224, .i32⟩
  | 111 => ⟨S32x3x224x224, .i1⟩
  | 112 => ⟨S_, .i32⟩
  | 113 => ⟨S_, .i1⟩
  | 114 => ⟨S32x3x224x224, .i1⟩
  | 115 => ⟨S32x3x224x224, .i1⟩
  | 116 => ⟨S32x3x224x224, .i1⟩
  | 117 => ⟨S32x3x224x224, .i32⟩
  | 118 => ⟨S32x3x224x224, .i32⟩
  | 119 => ⟨S32x3x224x224, .i32⟩
  | 120 => ⟨S16, .f32⟩
  | 121 => ⟨S_, .f32⟩
  | 122 => ⟨S_, .f32⟩
  | 123 => ⟨S_, .f32⟩
  | 124 => ⟨S_, .f32⟩
  | 125 => ⟨S16, .f32⟩
  | 126 => ⟨S16, .f32⟩
  | 127 => ⟨S_, .f32⟩
  | _ => ⟨S32x3x224x224, .f32⟩

abbrev hbmTy0_1 (i : Nat) : BufTy := match i % 128 with
  | 0 => ⟨S16, .f32⟩
  | 1 => ⟨S16, .f32⟩
  | 2 => ⟨S16, .f32⟩
  | 3 => ⟨S_, .f32⟩
  | 4 => ⟨S16, .f32⟩
  | 5 => ⟨S16, .f32⟩
  | 6 => ⟨S16, .f32⟩
  | 7 => ⟨S16x1, .f32⟩
  | 8 => ⟨S1x16, .f32⟩
  | 9 => ⟨S16x16, .f32⟩
  | 10 => ⟨S16x16, .f32⟩
  | 11 => ⟨S16x16, .f32⟩
  | 12 => ⟨S_, .f32⟩
  | 13 => ⟨S_, .f32⟩
  | 14 => ⟨S16x16, .f32⟩
  | 15 => ⟨S16x16, .f32⟩
  | 16 => ⟨S1x16x1x16, .f32⟩
  | 17 => ⟨S14x16x14x16, .f32⟩
  | 18 => ⟨S224x224, .f32⟩
  | 19 => ⟨S1x1x224x224, .f32⟩
  | 20 => ⟨S32x3x224x224, .f32⟩
  | 21 => ⟨S32x3x224x224, .f32⟩
  | 22 => ⟨S32x3x1x224x224, .i32⟩
  | 23 => ⟨S9, .i32⟩
  | 24 => ⟨S1x1x9x1x1, .i32⟩
  | 25 => ⟨S32x3x9x224x224, .i32⟩
  | 26 => ⟨S32x3x9x224x224, .i32⟩
  | 27 => ⟨S32x3x9x224x224, .i1⟩
  | 28 => ⟨S32x3x9x224x224, .f32⟩
  | 29 => ⟨S32x3x1x224x224, .f32⟩
  | 30 => ⟨S32x3x9x224x224, .f32⟩
  | 31 => ⟨S32x3x9x224x224, .f32⟩
  | 32 => ⟨S32x3x9x32x7x32x7, .f32⟩
  | 33 => ⟨S_, .f32⟩
  | 34 => ⟨S32x3x9x32x32, .f32⟩
  | 35 => ⟨S32x3x9x32x32, .f32⟩
  | 36 => ⟨S_, .f32⟩
  | 37 => ⟨S32x3x32x32, .f32⟩
  | 38 => ⟨S32x3x1x32x32, .f32⟩
  | 39 => ⟨S32x3x1x32x32, .f32⟩
  | 40 => ⟨S_, .f32⟩
  | 41 => ⟨S32x3x1x32x32, .f32⟩
  | 42 => ⟨S32x3x1x32x32, .f32⟩
  | 43 => ⟨S32x3x9x32x32, .f32⟩
  | 44 => ⟨S32x3x9x32x32, .f32⟩
  | 45 => ⟨S96x9x32x32, .f32⟩
  | _ => ⟨S32x3x224x224, .f32⟩

abbrev hbmTy (i : Nat) : BufTy := match i / 128 with
  | 0 => hbmTy0_0 i
  | 1 => hbmTy0_1 i
  | _ => ⟨S32x3x224x224, .f32⟩

abbrev bufTy : (tb : Table) → Fin (tcTables nBuf tb) → BufTy
  | .hbm, ⟨i, _⟩ => hbmTy i
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_16 : Ref sig .tc := ⟨.hbm, 98, rfl⟩
abbrev main_call1_v0 : Ref sig .tc := ⟨.hbm, 99, rfl⟩
abbrev main_call1_c : Ref sig .tc := ⟨.hbm, 100, rfl⟩
abbrev main_call1_v1 : Ref sig .tc := ⟨.hbm, 101, rfl⟩
abbrev main_call1_c_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_c_1 : Ref sig .tc := ⟨.hbm, 106, rfl⟩
abbrev main_call1_v5 : Ref sig .tc := ⟨.hbm, 107, rfl⟩
abbrev main_call1_v6 : Ref sig .tc := ⟨.hbm, 108, rfl⟩
abbrev main_call1_c_2 : Ref sig .tc := ⟨.hbm, 109, rfl⟩
abbrev main_call1_v7 : Ref sig .tc := ⟨.hbm, 110, rfl⟩
abbrev main_call1_v8 : Ref sig .tc := ⟨.hbm, 111, rfl⟩
abbrev main_call1_c_3 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_v12 : Ref sig .tc := ⟨.hbm, 116, rfl⟩
abbrev main_call1_v13 : Ref sig .tc := ⟨.hbm, 117, rfl⟩
abbrev main_call1_v14 : Ref sig .tc := ⟨.hbm, 118, rfl⟩
abbrev main_v64 : Ref sig .tc := ⟨.hbm, 119, rfl⟩
abbrev main_v65 : Ref sig .tc := ⟨.hbm, 120, rfl⟩
abbrev main_cst_17 : Ref sig .tc := ⟨.hbm, 121, rfl⟩
abbrev main_v66 : Ref sig .tc := ⟨.hbm, 122, rfl⟩
abbrev main_cst_18 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_19 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_20 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_21 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_22 : Ref sig .tc := ⟨.hbm, 161, rfl⟩
abbrev main_v101 : Ref sig .tc := ⟨.hbm, 162, rfl⟩
abbrev main_v102 : Ref sig .tc := ⟨.hbm, 163, rfl⟩
abbrev main_cst_23 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_cst_24 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩

abbrev nD : Nat := 1
abbrev τ : Topo := Topo.v7x

variable {F : FTy → Type} [FloatOps F]
-- ==== Proof.Hog.Host.lean ====
/-
The arrays the region finds: the padded images, the tap matrix, the window of weights and the two pooling
matrices, each as a function of the argument. The reference pads and weighs with the same operations.
-/
module

public import proofs.«01_k».proof.Proof.Gen.KernelIdeal.Value
public import proofs.«01_k».proof.Proof.Gen.On_clear
public import proofs.«01_k».proof.Proof.Gen.ReferenceIdeal.Run

@[expose] public section

set_option maxRecDepth 16384

noncomputable section

namespace Cert.Hog

open Cert.KernelIdeal Cert.KernelIdeal.Gen Idealize.ShloMosaic Idealize.ShloMosaic.StableHlo

variable {F : FTy → Type} [FloatOps F]

/-- The images with one reflected pixel on each side. -/
def padded (x : FVec F S32x3x224x224 .f32) : FVec F S32x3x226x226 .f32 := Cert.On_clear.fn_pad (F := F) x (constantI S_ 32 0#32)

/-- The numbers 0 to 15. -/
def ramp : FVec F S16 .f32 := sitofp .f32 (iotaInDim S16 32 0)

/-- The numbers 0 to 15 less their mean, over eight. -/
def centred : FVec F S16 .f32 :=
  Host.divf (subf ramp (broadcastInDim S16 ![] bcast_S_S16
      (Host.divf (Host.reduceAdd ramp (constant S_ .f32 0x00000000#32) reducesTo_S16_S_d0 h_S_) (constant S_ .f32 0x41800000#32))))
    (broadcastInDim S16 ![] bcast_S_S16 (constant S_ .f32 0x41000000#32))

/-- The Gaussian of sixteen points. -/
def bell : FVec F S16 .f32 := Host.exp (mulf (broadcastInDim S16 ![] bcast_S_S16 (constant S_ .f32 0xBF000000#32)) (mulf centred centred))

/-- Its outer product with itself. -/
def bell2 : FVec F S16x16 .f32 :=
  mulf (broadcastInDim S16x16 ![0, 1] bcast_S16x1_S16x16_0_1 (broadcastInDim S16x1 ![0] bcast_S16_S16x1_0 bell))
    (broadcastInDim S16x16 ![0, 1] bcast_S1x16_S16x16_0_1 (broadcastInDim S1x16 ![1] bcast_S16_S1x16_1 bell))

/-- The outer product over its sum, repeated fourteen times along each axis: the weights of a plane. -/
def weights : FVec F S224x224 .f32 :=
  shapeCast S224x224 (broadcastInDim S14x16x14x16 ![0, 1, 2, 3] bcast_S1x16x1x16_S14x16x14x16_0_1_2_3
    (shapeCast S1x16x1x16 (Host.divf bell2 (broadcastInDim S16x16 ![] bcast_S_S16x16
      (Host.reduceAdd bell2 (constant S_ .f32 0x00000000#32) reducesTo_S16x16_S_d0_1 h_S_))) shapeCasts_S16x16_S1x16x1x16))
    shapeCasts_S14x16x14x16_S224x224

/-- A row above the images. -/
def rowAbove (a : FVec F S32x3x1x224 .f32) (b : FVec F S32x3x224x224 .f32) : FVec F S32x3x225x224 .f32 :=
  concatenate S32x3x225x224 2 [⟨S32x3x1x224, a⟩, ⟨S32x3x224x224, b⟩] concatenates_S32x3x1x224_S32x3x224x224_S32x3x225x224_d2

/-- A row below them. -/
def rowBelow (a : FVec F S32x3x225x224 .f32) (b : FVec F S32x3x1x224 .f32) : FVec F S32x3x226x224 .f32 :=
  concatenate S32x3x226x224 2 [⟨S32x3x225x224, a⟩, ⟨S32x3x1x224, b⟩] concatenates_S32x3x225x224_S32x3x1x224_S32x3x226x224_d2

/-- A column to the left. -/
def colLeft (a : FVec F S32x3x226x1 .f32) (b : FVec F S32x3x226x224 .f32) : FVec F S32x3x226x225 .f32 :=
  concatenate S32x3x226x225 3 [⟨S32x3x226x1, a⟩, ⟨S32x3x226x224, b⟩] concatenates_S32x3x226x1_S32x3x226x224_S32x3x226x225_d3

/-- A column to the right. -/
def colRight (a : FVec F S32x3x226x225 .f32) (b : FVec F S32x3x226x1 .f32) : FVec F S32x3x226x226 .f32 :=
  concatenate S32x3x226x226 3 [⟨S32x3x226x225, a⟩, ⟨S32x3x226x1, b⟩] concatenates_S32x3x226x225_S32x3x226x1_S32x3x226x226_d3

/-- The operation adding the row above under its name. -/
theorem rowAbove_op :
    (StableHlo.TRef.binary main_call0_call0.v0 (.of main_arg0 : StableHlo.TRef sig ⟨S32x3x224x224, .f32⟩) (.of main_call0_v3 : StableHlo.TRef sig ⟨S32x3x225x224, .f32⟩) (fun a b => concatenate S32x3x225x224 2 [⟨S32x3x1x224, a⟩, ⟨S32x3x224x224, b⟩] concatenates_S32x3x1x224_S32x3x224x224_S32x3x225x224_d2) : HloOp τ sig (Elt F)) =
      StableHlo.TRef.binary main_call0_call0.v0 (.of main_arg0 : StableHlo.TRef sig ⟨S32x3x224x224, .f32⟩) (.of main_call0_v3 : StableHlo.TRef sig ⟨S32x3x225x224, .f32⟩) rowAbove := rfl

/-- The operation adding the row below under its name. -/
theorem rowBelow_op :
    (StableHlo.TRef.binary (.of main_call0_v3 : StableHlo.TRef sig ⟨S32x3x225x224, .f32⟩) main_call0_call1.v0 (.of main_call0_v7 : StableHlo.TRef sig ⟨S32x3x226x224, .f32⟩) (fun a b => concatenate S32x3x226x224 2 [⟨S32x3x225x224, a⟩, ⟨S32x3x1x224, b⟩] concatenates_S32x3x225x224_S32x3x1x224_S32x3x226x224_d2) : HloOp τ sig (Elt F)) =
      StableHlo.TRef.binary (.of main_call0_v3 : StableHlo.TRef sig ⟨S32x3x225x224, .f32⟩) main_call0_call1.v0 (.of main_call0_v7 : StableHlo.TRef sig ⟨S32x3x226x224, .f32⟩) rowBelow := rfl

/-- The operation adding the left column under its name. -/
theorem colLeft_op :
    (StableHlo.TRef.binary main_call0_call2.v0 (.of main_call0_v7 : StableHlo.TRef sig ⟨S32x3x226x224, .f32⟩) (.of main_call0_v11 : StableHlo.TRef sig ⟨S32x3x226x225, .f32⟩) (fun a b => concatenate S32x3x226x225 3 [⟨S32x3x226x1, a⟩, ⟨S32x3x226x224, b⟩] concatenates_S32x3x226x1_S32x3x226x224_S32x3x226x225_d3) : HloOp τ sig (Elt F)) =
      StableHlo.TRef.binary main_call0_call2.v0 (.of main_call0_v7 : StableHlo.TRef sig ⟨S32x3x226x224, .f32⟩) (.of main_call0_v11 : StableHlo.TRef sig ⟨S32x3x226x225, .f32⟩) colLeft := rfl

/-- The operation adding the right column under its name. -/
theorem colRight_op :
    (StableHlo.TRef.binary (.of main_call0_v11 : StableHlo.TRef sig ⟨S32x3x226x225, .f32⟩) main_call0_call3.v0 (.of main_v0 : StableHlo.TRef sig ⟨S32x3x226x226, .f32⟩) (fun a b => concatenate S32x3x226x226 3 [⟨S32x3x226x225, a⟩, ⟨S32x3x226x1, b⟩] concatenates_S32x3x226x225_S32x3x226x1_S32x3x226x226_d3) : HloOp τ sig (Elt F)) =
      StableHlo.TRef.binary (.of main_call0_v11 : StableHlo.TRef sig ⟨S32x3x226x225, .f32⟩) main_call0_call3.v0 (.of main_v0 : StableHlo.TRef sig ⟨S32x3x226x226, .f32⟩) colRight := rfl

section kernel

variable (m : (ℓ : Loc nD τ sig) → Buf (Elt F) ℓ) (c : Dev nD)

/-- The region finds the padded images, one plane per image and channel. -/
theorem entry_images : V m c main_v2 =
    truncf .bf16 (shapeCast S96x226x226 (padded (m ((c.tc : Thread nD τ).loc main_arg0))) shapeCasts_S32x3x226x226_S96x226x226) bitsLt_bf16_f32 := by
  unfold V
  simp only [hostOps0, hostOps0_1, hostOps0_2, List.flatten_cons, List.flatten_nil, List.append_nil, List.cons_append,
      List.nil_append]
  rw [rowAbove_op, rowBelow_op, colLeft_op, colRight_op]
  simp only [TRef.binary, TRef.unary, TRef.toBuf, TRef.ofBuf, cast_eq]
  after_results_simp
  rfl

/-- The region finds the weights. -/
theorem entry_weights : V m c main_v24 = weights := by
  unfold V
  simp only [hostOps0, hostOps0_1, hostOps0_2, List.flatten_cons, List.flatten_nil, List.append_nil, List.cons_append,
      List.nil_append, TRef.binary, TRef.unary, TRef.toBuf, TRef.ofBuf, cast_eq]
  after_results_simp
  rfl

/-- The region finds the first literal. -/
theorem entry_taps : V m c main_cst = fun i => FloatOps.ofBits .bf16 (lit0 (S226x512.rowMajor i)) := by
  unfold V
  simp only [hostOps0, hostOps0_1, hostOps0_2, List.flatten_cons, List.flatten_nil, List.append_nil, List.cons_append,
      List.nil_append, TRef.binary, TRef.unary, TRef.toBuf, TRef.ofBuf, cast_eq]
  after_results_simp
  rfl

/-- The region finds the second literal. -/
theorem entry_rows : V m c main_cst_0 = fun i => FloatOps.ofBits .f32 (lit1 (S32x224.rowMajor i)) := by
  unfold V
  simp only [hostOps0, hostOps0_1, hostOps0_2, List.flatten_cons, List.flatten_nil, List.append_nil, List.cons_append,
      List.nil_append, TRef.binary, TRef.unary, TRef.toBuf, TRef.ofBuf, cast_eq]
  after_results_simp
  rfl

/-- The region finds the third literal. -/
theorem entry_cols : V m c main_cst_1 = fun i => FloatOps.ofBits .f32 (lit2 (S224x32.rowMajor i)) := by
  unfold V
  simp only [hostOps0, hostOps0_1, hostOps0_2, List.flatten_cons, List.flatten_nil, List.append_nil, List.cons_append,
      List.nil_append, TRef.binary, TRef.unary, TRef.toBuf, TRef.ofBuf, cast_eq]
  after_results_simp
  rfl

end kernel

/-- The reference pads with the same operations. -/
theorem ref_padded (V0 : Valuation Cert.ReferenceIdeal.τ Cert.ReferenceIdeal.sig (Elt F)) :
    Cert.ReferenceIdeal.Value.res_main_v0 V0 = padded (V0 (Proc.devRef .tc Cert.ReferenceIdeal.main_arg0)) := rfl

/-- The reference's outer product is made by the same operations. -/
theorem ref_bell2 (V0 : Valuation Cert.ReferenceIdeal.τ Cert.ReferenceIdeal.sig (Elt F)) :
    Cert.ReferenceIdeal.Value.res_main_v80 V0 = bell2 := rfl

end Cert.Hog

end
-- ==== Proof.Hog.Sobel.lean ====
/-
The two programs' ways of adding up the nine pixels about a place, over the extended reals. Where the reference's
sum is finite every pixel in it is, and then the order of the additions does not matter.
-/
module

public import Mathlib.Data.EReal.Operations
public import Mathlib.Tactic.Ring
public import Mathlib.Tactic.Linarith

@[expose] public section

noncomputable section

namespace Cert.Hog

/-- The horizontal gradient as the reference adds it. -/
def refX (p : Fin 3 → Fin 3 → EReal) : EReal :=
  p 0 0 + ((-1 : ℝ) : EReal) * p 0 2 + ((2 : ℝ) : EReal) * p 1 0 + ((-2 : ℝ) : EReal) * p 1 2 + p 2 0 + ((-1 : ℝ) : EReal) * p 2 2

/-- The vertical gradient as the reference adds it. -/
def refY (p : Fin 3 → Fin 3 → EReal) : EReal :=
  p 0 0 + ((2 : ℝ) : EReal) * p 0 1 + p 0 2 + ((-1 : ℝ) : EReal) * p 2 0 + ((-2 : ℝ) : EReal) * p 2 1 + ((-1 : ℝ) : EReal) * p 2 2

/-- The horizontal gradient as the kernel adds it: differences along a row, then the 1, 2, 1 sum down. -/
def kerX (p : Fin 3 → Fin 3 → EReal) : EReal := (p 0 0 + -p 0 2) + ((2 : ℝ) : EReal) * (p 1 0 + -p 1 2) + (p 2 0 + -p 2 2)

/-- The vertical gradient as the kernel adds it: 1, 2, 1 sums along a row, then the difference down. -/
def kerY (p : Fin 3 → Fin 3 → EReal) : EReal :=
  (p 0 0 + ((2 : ℝ) : EReal) * p 0 1 + p 0 2) - (p 2 0 + ((2 : ℝ) : EReal) * p 2 1 + p 2 2)

/-- The value is a real number. -/
def Finite (x : EReal) : Prop := ∃ y : ℝ, x = (y : EReal)

/-- A value whose absolute value is below infinity is a real number. -/
theorem finite_of_abs_lt {x : EReal} (h : max x (-x) < ⊤) : Finite x := by
  induction x using EReal.rec with
  | bot => simp at h
  | top => simp at h
  | coe y => exact ⟨y, rfl⟩

/-- The summands of a finite sum are finite. -/
theorem finite_add {x y : EReal} (h : Finite (x + y)) : Finite x ∧ Finite y := by
  obtain ⟨z, hz⟩ := h
  induction x using EReal.rec with
  | bot => simp at hz
  | top =>
    induction y using EReal.rec with
    | bot => simp at hz
    | top => simp at hz
    | coe y => simp at hz
  | coe x =>
    induction y using EReal.rec with
    | bot => simp at hz
    | top => simp at hz
    | coe y => exact ⟨⟨x, rfl⟩, ⟨y, rfl⟩⟩

/-- The second factor of a finite product by a number that is not zero is finite. -/
theorem finite_mul {c : ℝ} (hc : c ≠ 0) {x : EReal} (h : Finite ((c : EReal) * x)) : Finite x := by
  obtain ⟨z, hz⟩ := h
  induction x using EReal.rec with
  | bot =>
    rcases lt_or_gt_of_ne hc with h | h
    · rw [EReal.coe_mul_bot_of_neg h] at hz
      simp at hz
    · rw [EReal.coe_mul_bot_of_pos h] at hz
      simp at hz
  | top =>
    rcases lt_or_gt_of_ne hc with h | h
    · rw [EReal.coe_mul_top_of_neg h] at hz
      simp at hz
    · rw [EReal.coe_mul_top_of_pos h] at hz
      simp at hz
  | coe x => exact ⟨x, rfl⟩

/-- Where the reference's horizontal gradient is finite, the kernel's is the same. -/
theorem kerX_eq (p : Fin 3 → Fin 3 → EReal) (h : Finite (refX p)) : kerX p = refX p := by
  have h' := h
  unfold refX at h'
  obtain ⟨h', f6⟩ := finite_add h'
  obtain ⟨h', f5⟩ := finite_add h'
  obtain ⟨h', f4⟩ := finite_add h'
  obtain ⟨h', f3⟩ := finite_add h'
  obtain ⟨f1, f2⟩ := finite_add h'
  obtain ⟨a, ha⟩ := f1
  obtain ⟨b, hb⟩ := finite_mul (by norm_num) f2
  obtain ⟨c, hc⟩ := finite_mul (by norm_num) f3
  obtain ⟨d, hd⟩ := finite_mul (by norm_num) f4
  obtain ⟨e, he⟩ := f5
  obtain ⟨f, hf⟩ := finite_mul (by norm_num) f6
  simp only [kerX, refX, ha, hb, hc, hd, he, hf, ← EReal.coe_add, ← EReal.coe_mul, ← EReal.coe_neg]
  rw [EReal.coe_eq_coe_iff]
  ring

/-- Where the reference's vertical gradient is finite, the kernel's is the same. -/
theorem kerY_eq (p : Fin 3 → Fin 3 → EReal) (h : Finite (refY p)) : kerY p = refY p := by
  have h' := h
  unfold refY at h'
  obtain ⟨h', f6⟩ := finite_add h'
  obtain ⟨h', f5⟩ := finite_add h'
  obtain ⟨h', f4⟩ := finite_add h'
  obtain ⟨h', f3⟩ := finite_add h'
  obtain ⟨f1, f2⟩ := finite_add h'
  obtain ⟨a, ha⟩ := f1
  obtain ⟨b, hb⟩ := finite_mul (by norm_num) f2
  obtain ⟨c, hc⟩ := f3
  obtain ⟨d, hd⟩ := finite_mul (by norm_num) f4
  obtain ⟨e, he⟩ := finite_mul (by norm_num) f5
  obtain ⟨f, hf⟩ := finite_mul (by norm_num) f6
  simp only [kerY, refY, ha, hb, hc, hd, he, hf, ← EReal.coe_add, ← EReal.coe_mul, ← EReal.coe_sub]
  rw [EReal.coe_eq_coe_iff]
  ring

end Cert.Hog

end
-- ==== Proof.Hog.Angle.lean ====
/-
The bins, over the real numbers. The reference divides the half turn into nine and takes the integer part; the
kernel compares the folded gradient with eight lines through the origin whose slopes are float32 tangents. Off a
thin wedge about each line the two agree.
-/
module

public import Mathlib.Analysis.SpecialFunctions.Trigonometric.Arctan

@[expose] public section

noncomputable section

namespace Cert.Hog

open Real

/-- The kernel's float32 tangents of one to four ninths of the half turn. -/
def slope : Fin 4 → ℝ := ![12212814 / 2^25, 14077756 / 2^24, 14529495 / 2^23, 11893540 / 2^21]

/-- Each slope is positive. -/
theorem slope_pos (j : Fin 4) : 0 < slope j := by
  fin_cases j <;> norm_num [slope]

/-- A third of a turn's half has tangent the root of three: the arctangent of a smaller number is smaller. -/
theorem arctan_lt_third {q : ℝ} (h : q ^ 2 < 3) : arctan q < π / 3 := by
  rw [← arctan_sqrt_three]
  exact arctan_strictMono (lt_sqrt_of_sq_lt h)

/-- The arctangent of a number above the root of three is larger than a third of the half turn. -/
theorem third_lt_arctan {q : ℝ} (h0 : 0 < q) (h : 3 < q ^ 2) : π / 3 < arctan q := by
  rw [← arctan_sqrt_three]
  exact arctan_strictMono ((sqrt_lt' h0).2 h)

/-- Three times an arctangent below a sixth of the half turn. -/
theorem three_arctan {q : ℝ} (h : 3 * q ^ 2 < 1) : 3 * arctan q = arctan ((3 * q - q ^ 3) / (1 - 3 * q ^ 2)) := by
  have h1 : q * q < 1 := by nlinarith [sq_nonneg q]
  have h2 : q * ((q + q) / (1 - q * q)) < 1 := by
    rw [← mul_div_assoc, div_lt_one (by linarith)]
    nlinarith
  have h3 : 1 - q * q ≠ 0 := by linarith
  have h4 : 1 - 3 * q ^ 2 ≠ 0 := by linarith
  have e : 3 * arctan q = arctan q + (arctan q + arctan q) := by ring
  rw [e, arctan_add h1, arctan_add h2]
  congr 1
  have h5 : 1 - q * ((q + q) / (1 - q * q)) ≠ 0 := by linarith
  rw [div_eq_div_iff h5 h4]
  have h6 : 1 - q ^ 2 ≠ 0 := by nlinarith
  field_simp
  ring

/-- Three times an arctangent between a sixth and a quarter of the turn's half. -/
theorem three_arctan' {q : ℝ} (h0 : 0 < q) (h1 : q * q < 1) (h : 1 < 3 * q ^ 2) :
    3 * arctan q = arctan ((3 * q - q ^ 3) / (1 - 3 * q ^ 2)) + π := by
  have h2 : 1 < q * ((q + q) / (1 - q * q)) := by
    rw [← mul_div_assoc, lt_div_iff₀ (by linarith)]
    nlinarith
  have h3 : 1 - q * q ≠ 0 := by linarith
  have h4 : 1 - 3 * q ^ 2 ≠ 0 := by linarith
  have e : 3 * arctan q = arctan q + (arctan q + arctan q) := by ring
  rw [e, arctan_add h1, arctan_add_eq_add_pi h2 h0]
  congr 2
  have h5 : 1 - q * ((q + q) / (1 - q * q)) ≠ 0 := by linarith
  rw [div_eq_div_iff h5 h4]
  have h6 : 1 - q ^ 2 ≠ 0 := by nlinarith
  field_simp
  ring

/-- Below the first edge. -/
theorem lt_one {q : ℝ} (h : 3 * q ^ 2 < 1) (h' : ((3 * q - q ^ 3) / (1 - 3 * q ^ 2)) ^ 2 < 3) : arctan q < π / 9 := by
  have := three_arctan h
  have := arctan_lt_third h'
  linarith

/-- Above the first edge. -/
theorem one_lt {q : ℝ} (h : 3 * q ^ 2 < 1) (h0 : 0 < (3 * q - q ^ 3) / (1 - 3 * q ^ 2)) (h' : 3 < ((3 * q - q ^ 3) / (1 - 3 * q ^ 2)) ^ 2) :
    π / 9 < arctan q := by
  have := three_arctan h
  have := third_lt_arctan h0 h'
  linarith

/-- Below the second edge. -/
theorem lt_two {q : ℝ} (hq : 0 < q) (h1 : q * q < 1) (h : 1 < 3 * q ^ 2) (h0 : 0 < -((3 * q - q ^ 3) / (1 - 3 * q ^ 2)))
    (h' : 3 < (-((3 * q - q ^ 3) / (1 - 3 * q ^ 2))) ^ 2) : arctan q < 2 * π / 9 := by
  have := three_arctan' hq h1 h
  have := third_lt_arctan h0 h'
  rw [arctan_neg] at this
  linarith

/-- Above the second edge. -/
theorem two_lt {q : ℝ} (hq : 0 < q) (h1 : q * q < 1) (h : 1 < 3 * q ^ 2) (h' : (-((3 * q - q ^ 3) / (1 - 3 * q ^ 2))) ^ 2 < 3) :
    2 * π / 9 < arctan q := by
  have := three_arctan' hq h1 h
  have := arctan_lt_third h'
  rw [arctan_neg] at this
  linarith

/-- Below the fourth edge: the reciprocal lies a ninth of the half turn nearer to the horizontal. -/
theorem lt_four {q : ℝ} (hq : 0 < q) (h : 3 * q⁻¹ ^ 2 < 1) (h0 : 0 < (3 * q⁻¹ - q⁻¹ ^ 3) / (1 - 3 * q⁻¹ ^ 2))
    (h' : (((3 * q⁻¹ - q⁻¹ ^ 3) / (1 - 3 * q⁻¹ ^ 2))⁻¹) ^ 2 < 3) : arctan q < 4 * π / 9 := by
  have e := three_arctan h
  have := arctan_lt_third h'
  rw [arctan_inv_of_pos h0] at this
  rw [arctan_inv_of_pos hq] at e
  linarith

/-- Above the fourth edge. -/
theorem four_lt {q : ℝ} (hq : 0 < q) (h : 3 * q⁻¹ ^ 2 < 1) (h0 : 0 < (3 * q⁻¹ - q⁻¹ ^ 3) / (1 - 3 * q⁻¹ ^ 2))
    (h' : 3 < (((3 * q⁻¹ - q⁻¹ ^ 3) / (1 - 3 * q⁻¹ ^ 2))⁻¹) ^ 2) : 4 * π / 9 < arctan q := by
  have e := three_arctan h
  have := third_lt_arctan (inv_pos.2 h0) h'
  rw [arctan_inv_of_pos h0] at this
  rw [arctan_inv_of_pos hq] at e
  linarith

/-- The lower side of each wedge lies below the edge. -/
theorem wedge_below (j : Fin 4) : arctan (slope j * (1 - 1 / 2^22)) < (j.val + 1 : ℝ) * π / 9 := by
  fin_cases j
  · refine lt_of_lt_of_eq (lt_one (q := 12212814 / 2^25 * (1 - 1 / 2^22)) ?_ ?_) ?_ <;> norm_num
  · refine lt_of_lt_of_eq (lt_two (q := 14077756 / 2^24 * (1 - 1 / 2^22)) ?_ ?_ ?_ ?_ ?_) ?_ <;> norm_num
  · refine lt_of_lt_of_eq (arctan_lt_third (q := 14529495 / 2^23 * (1 - 1 / 2^22)) ?_) ?_ <;> norm_num
    linarith
  · refine lt_of_lt_of_eq (lt_four (q := 11893540 / 2^21 * (1 - 1 / 2^22)) ?_ ?_ ?_ ?_) ?_ <;> norm_num

/-- The upper side of each wedge lies above the edge. -/
theorem wedge_above (j : Fin 4) : (j.val + 1 : ℝ) * π / 9 < arctan (slope j * (1 + 1 / 2^22)) := by
  fin_cases j
  · refine lt_of_eq_of_lt ?_ (one_lt (q := 12212814 / 2^25 * (1 + 1 / 2^22)) ?_ ?_ ?_) <;> norm_num
  · refine lt_of_eq_of_lt ?_ (two_lt (q := 14077756 / 2^24 * (1 + 1 / 2^22)) ?_ ?_ ?_ ?_) <;> norm_num
  · refine lt_of_eq_of_lt ?_ (third_lt_arctan (q := 14529495 / 2^23 * (1 + 1 / 2^22)) ?_ ?_) <;> norm_num
    linarith
  · refine lt_of_eq_of_lt ?_ (four_lt (q := 11893540 / 2^21 * (1 + 1 / 2^22)) ?_ ?_ ?_ ?_) <;> norm_num

/-- The angle of the point with abscissa `x` and ordinate `y`, between minus and plus the half turn. -/
def angle (y x : ℝ) : ℝ :=
  if 0 < x then arctan (y / x)
  else if x < 0 then (if 0 ≤ y then arctan (y / x) + π else arctan (y / x) - π)
  else if 0 < y then π / 2 else if y < 0 then -(π / 2) else 0

/-- Off the wedge about a line of slope `slope j`, in the right quarter plane, being on or above the line is being at
    or past the edge of the bin. -/
theorem above_iff (j : Fin 4) {w v : ℝ} (hw : 0 < w) (h : 1 / 2^22 * (slope j * w) ≤ |v - slope j * w|) :
    slope j * w ≤ v ↔ (j.val + 1 : ℝ) * π / 9 ≤ arctan (v / w) := by
  constructor
  · intro hv
    rw [abs_of_nonneg (by linarith)] at h
    refine (wedge_above j).le.trans (arctan_strictMono.monotone ?_)
    rw [le_div_iff₀ hw]
    linarith
  · intro hv
    by_contra hc
    rw [abs_of_neg (by linarith)] at h
    refine absurd hv (not_le.2 (lt_of_le_of_lt (arctan_strictMono.monotone ?_) (wedge_below j)))
    rw [div_le_iff₀ hw]
    linarith

/-- The same for being on or below the line. -/
theorem below_iff (j : Fin 4) {w v : ℝ} (hw : 0 < w) (h : 1 / 2^22 * (slope j * w) ≤ |v - slope j * w|) :
    v ≤ slope j * w ↔ arctan (v / w) ≤ (j.val + 1 : ℝ) * π / 9 := by
  constructor
  · intro hv
    rw [abs_of_nonpos (by linarith)] at h
    refine le_trans (arctan_strictMono.monotone ?_) (wedge_below j).le
    rw [div_le_iff₀ hw]
    linarith
  · intro hv
    by_contra hc
    rw [abs_of_pos (by linarith)] at h
    refine absurd hv (not_le.2 (lt_of_lt_of_le (wedge_above j) (arctan_strictMono.monotone ?_)))
    rw [le_div_iff₀ hw]
    linarith

end Cert.Hog

end
-- ==== Proof.Hog.Bins.lean ====
/-
The nine bins, over the real numbers: the kernel's eight comparisons choose the reference's bin wherever the
gradient is not zero and lies off the wedges.
-/
module

public import proofs.«01_k».proof.Proof.Hog.Angle

@[expose] public section

noncomputable section

namespace Cert.Hog

open Real

/-- The folded gradient `(u, v)` lies on edge `k` or beyond it: above the line for the first four, below it for the last four. -/
def past (k : Fin 8) (u v : ℝ) : Prop :=
  if h : k.val < 4 then slope ⟨k.val, h⟩ * u ≤ v else v ≤ slope ⟨7 - k.val, by omega⟩ * -u

/-- The folded gradient lies beyond the edge below bin `k` and not beyond the edge above it. -/
def slot (k : Fin 9) (u v : ℝ) : Prop :=
  (∀ h : 0 < k.val, past ⟨k.val - 1, by omega⟩ u v) ∧ (∀ h : k.val < 8, ¬ past ⟨k.val, h⟩ u v)

/-- The component along the bins' axis, folded: its sign is turned where `a` is negative and dropped where `a` is zero. -/
def fold (a b : ℝ) : ℝ := if a = 0 then |b| else if a < 0 then -b else b

/-- The angle in ninths of the half turn, rounded down. -/
def ninth (a b : ℝ) : ℤ := ⌊angle a b / π * 9⌋

/-- The gradient is off the wedges about all four slopes. -/
def Off (a b : ℝ) : Prop := ∀ j : Fin 4, 1 / 2^22 * (slope j * |b|) ≤ |(|a| - slope j * |b|)|

/-- In the upper half plane, being past edge `k` is having an angle of at least `k + 1` ninths of the half turn. -/
theorem past_iff (k : Fin 8) {u v : ℝ} (hv : 0 < v) (h : ∀ j : Fin 4, 1 / 2^22 * (slope j * |u|) ≤ |(v - slope j * |u|)|) :
    past k u v ↔ (k.val + 1 : ℝ) * π / 9 ≤ angle v u := by
  have hp := pi_pos
  have hk0 : (0 : ℝ) ≤ k.val := Nat.cast_nonneg _
  rcases lt_trichotomy u 0 with hu | rfl | hu
  · have e : angle v u = π - arctan (v / -u) := by
      rw [angle, if_neg (not_lt.2 hu.le), if_pos hu, if_pos hv.le, div_neg, arctan_neg]
      ring
    have hlt : arctan (v / -u) < π / 2 := arctan_lt_pi_div_two _
    rw [past, e]
    split_ifs with hk
    · have hk' : (k.val : ℝ) ≤ 3 := by exact_mod_cast (by omega : k.val ≤ 3)
      refine ⟨fun _ => by nlinarith, fun _ => ?_⟩
      have := slope_pos ⟨k.val, hk⟩
      nlinarith
    · have h' := h ⟨7 - k.val, by omega⟩
      rw [abs_of_neg hu] at h'
      rw [below_iff _ (by linarith : 0 < -u) h']
      have : ((7 - k.val : ℕ) : ℝ) = 7 - k.val := by
        rw [Nat.cast_sub (by omega)]
        norm_num
      rw [this]
      constructor <;> intro <;> linarith
  · rw [past, angle, if_neg (lt_irrefl _), if_neg (lt_irrefl _), if_pos hv]
    split_ifs with hk
    · have hk' : (k.val : ℝ) ≤ 3 := by exact_mod_cast (by omega : k.val ≤ 3)
      exact ⟨fun _ => by nlinarith, fun _ => by simpa using hv.le⟩
    · have hk' : (4 : ℝ) ≤ k.val := by exact_mod_cast (by omega : 4 ≤ k.val)
      refine ⟨fun h => ?_, fun h => ?_⟩
      · simp at h
        linarith
      · nlinarith
  · have hlt : arctan (v / u) < π / 2 := arctan_lt_pi_div_two _
    rw [past, angle, if_pos hu]
    split_ifs with hk
    · have h' := h ⟨k.val, hk⟩
      rw [abs_of_pos hu] at h'
      exact above_iff _ hu h'
    · have hk' : (4 : ℝ) ≤ k.val := by exact_mod_cast (by omega : 4 ≤ k.val)
      refine ⟨fun h => ?_, fun h => ?_⟩
      · have := slope_pos ⟨7 - k.val, by omega⟩
        nlinarith
      · nlinarith

/-- In the upper half plane the angle is positive and less than the half turn. -/
theorem angle_mem {u v : ℝ} (hv : 0 < v) : 0 < angle v u ∧ angle v u < π := by
  have hp := pi_pos
  rcases lt_trichotomy u 0 with hu | rfl | hu
  · rw [angle, if_neg (not_lt.2 hu.le), if_pos hu, if_pos hv.le]
    have h1 := neg_pi_div_two_lt_arctan (v / u)
    have h2 : arctan (v / u) < 0 := arctan_lt_zero.2 (div_neg_of_pos_of_neg hv hu)
    constructor <;> linarith
  · rw [angle, if_neg (lt_irrefl _), if_neg (lt_irrefl _), if_pos hv]
    constructor <;> linarith
  · rw [angle, if_pos hu]
    have h1 := arctan_lt_pi_div_two (v / u)
    have h2 : 0 < arctan (v / u) := arctan_pos.2 (div_pos hv hu)
    constructor <;> linarith

/-- In the upper half plane, having at least `k` ninths of the half turn. -/
theorem le_ninth (k : ℕ) (u v : ℝ) : (k : ℤ) ≤ ninth v u ↔ (k : ℝ) * π / 9 ≤ angle v u := by
  have hp := pi_pos
  rw [ninth, Int.le_floor, div_mul_eq_mul_div, le_div_iff₀ hp, div_le_iff₀ (by norm_num)]
  push_cast
  exact Iff.rfl

/-- In the upper half plane the ninths are 0 to 8. -/
theorem ninth_mem {u v : ℝ} (hv : 0 < v) : 0 ≤ ninth v u ∧ ninth v u < 9 := by
  have h := angle_mem (u := u) hv
  constructor
  · exact (le_ninth 0 u v).2 (by simpa using h.1.le)
  · by_contra hc
    have := (le_ninth 9 u v).1 (by push_cast; omega)
    push_cast at this
    linarith

/-- In the upper half plane, off the wedges, the slot is the ninth. -/
theorem slot_iff_ninth (k : Fin 9) {u v : ℝ} (hv : 0 < v) (h : ∀ j : Fin 4, 1 / 2^22 * (slope j * |u|) ≤ |(v - slope j * |u|)|) :
    slot k u v ↔ ninth v u = k.val := by
  have hm := ninth_mem (u := u) hv
  have hpast : ∀ j : Fin 8, past j u v ↔ (j.val + 1 : ℤ) ≤ ninth v u := by
    intro j
    have e := le_ninth (j.val + 1) u v
    push_cast at e
    rw [past_iff j hv h, e]
  simp only [slot, hpast]
  constructor
  · rintro ⟨h1, h2⟩
    by_cases k0 : 0 < k.val <;> by_cases k8 : k.val < 8
    · have := h1 k0
      have := h2 k8
      omega
    · have := h1 k0
      omega
    · have := h2 k8
      omega
    · omega
  · intro e
    exact ⟨fun h => by omega, fun h => by omega⟩

/-- Turning the gradient over takes nine ninths off. -/
theorem ninth_neg {a b : ℝ} (ha : a < 0) : ninth a b = ninth (-a) (-b) - 9 := by
  have hp := pi_pos
  have e : angle a b = angle (-a) (-b) - π := by
    rcases lt_trichotomy b 0 with hb | rfl | hb
    · rw [angle, if_neg (not_lt.2 hb.le), if_pos hb, if_neg (not_le.2 ha), angle, if_pos (neg_pos.2 hb), neg_div_neg_eq]
    · rw [angle, if_neg (lt_irrefl _), if_neg (lt_irrefl _), if_neg (not_lt.2 ha.le), if_pos ha, angle, neg_zero,
        if_neg (lt_irrefl _), if_neg (lt_irrefl _), if_pos (neg_pos.2 ha)]
      ring
    · rw [angle, if_pos hb, angle, if_neg (not_lt.2 (neg_nonpos.2 hb.le)), if_pos (neg_neg_of_pos hb),
        if_pos (neg_nonneg.2 ha.le), neg_div_neg_eq]
      ring
  rw [ninth, ninth, e, sub_div, div_self hp.ne', sub_mul, one_mul]
  exact_mod_cast Int.floor_sub_natCast (angle (-a) (-b) / π * 9) 9

/-- On the axis the ninths are 0 or 9. -/
theorem ninth_zero (b : ℝ) : ninth 0 b = if b < 0 then 9 else 0 := by
  have hp := pi_pos
  rcases lt_trichotomy b 0 with hb | rfl | hb
  · rw [if_pos hb, ninth, angle, if_neg (not_lt.2 hb.le), if_pos hb, if_pos le_rfl, zero_div, arctan_zero, zero_add, div_self hp.ne', one_mul]
    exact Int.floor_ofNat 9
  · simp [ninth, angle]
  · rw [if_neg (not_lt.2 hb.le), ninth, angle, if_pos hb]
    simp

/-- The ninths lie between minus nine and nine. -/
theorem ninth_range (a b : ℝ) : -9 ≤ ninth a b ∧ ninth a b ≤ 9 := by
  rcases lt_trichotomy a 0 with ha | rfl | ha
  · have := ninth_mem (u := -b) (neg_pos.2 ha)
    rw [ninth_neg ha]
    omega
  · rw [ninth_zero]
    split_ifs <;> omega
  · have := ninth_mem (u := b) ha
    omega

/-- The kernel's slot is the reference's bin, wherever the gradient is not zero and off the wedges. -/
theorem slot_iff (k : Fin 9) {a b : ℝ} (hab : a ≠ 0 ∨ b ≠ 0) (h : Off a b) : slot k (fold a b) |a| ↔ ninth a b % 9 = k.val := by
  rcases lt_trichotomy a 0 with ha | rfl | ha
  · have hm := ninth_mem (u := -b) (neg_pos.2 ha)
    rw [fold, if_neg ha.ne, if_pos ha, abs_of_neg ha, slot_iff_ninth k (neg_pos.2 ha), ninth_neg ha]
    · omega
    · intro j
      have := h j
      rwa [abs_of_neg ha, ← abs_neg b] at this
  · have hb : 0 < |b| := abs_pos.2 (by simpa using hab)
    have hpast : ∀ j : Fin 8, ¬ past j |b| 0 := by
      intro j
      rw [past]
      split_ifs with hj
      · have := slope_pos ⟨j.val, hj⟩
        nlinarith
      · have := slope_pos ⟨7 - j.val, by omega⟩
        nlinarith
    rw [fold, if_pos rfl, abs_zero, ninth_zero, slot]
    have e : (if b < 0 then (9 : ℤ) else 0) % 9 = 0 := by split_ifs <;> rfl
    rw [e]
    constructor
    · rintro ⟨h1, -⟩
      by_contra hc
      exact hpast _ (h1 (by omega))
    · intro hk
      exact ⟨fun h => by omega, fun h => hpast _⟩
  · have hm := ninth_mem (u := b) ha
    rw [fold, if_neg ha.ne', if_neg (not_lt.2 ha.le), abs_of_pos ha, slot_iff_ninth k ha]
    · omega
    · intro j
      have := h j
      rwa [abs_of_pos ha] at this

end Cert.Hog

end
-- ==== Proof.Hog.Image.lean ====
/-
What the kernel does with ONE image, written once: the Sobel gradients of a padded plane, the weighted
magnitude, the gradient folded into the half plane, the eight comparisons that part the nine bins, the two
pooling products and the normalisation. The kernel's body repeats it for the twelve images of a block;
`Out.lean` shows that each of its 108 stores is `cell` here.
-/
module

public import proofs.«01_k».proof.Proof.Gen.KernelIdeal.Skeleton

@[expose] public section

noncomputable section

namespace Cert.Hog

open Cert.KernelIdeal Cert.KernelIdeal.Gen Idealize.ShloMosaic

variable {F : FTy → Type} [FloatOps F]

/-- The padded plane times the tap matrix: columns 0 to 223 hold the horizontal difference of each row,
    columns 256 to 479 its horizontal 1, 2, 1 sum. -/
def taps (x : Vec F S1x226x226 .bf16) (d : Vec F S226x512 .bf16) : FVec F S226x512 .f32 :=
  matmul dot_S226x226_S226x512_S226x512_1_0_0_1_n_n none (shapeCast S226x226 x shapeCasts_S1x226x226_S226x226) d
    (constant S226x512 .f32 0x00000000#32)

/-- The vertical 1, 2, 1 sum of the horizontal differences. -/
def gradX (g : FVec F S226x512 .f32) : FVec F S224x224 .f32 :=
  have a : FVec F S226x224 .f32 := extractStridedSlice S226x224 ![0, 0] g slices_S226x512_o0_0_S226x224
  addf (addf (extractStridedSlice S224x224 ![0, 0] a slices_S226x224_o0_0_S224x224)
      (mulf (broadcast S224x224 (Scalar.ofBits .f32 0x40000000#32)) (extractStridedSlice S224x224 ![1, 0] a slices_S226x224_o1_0_S224x224)))
    (extractStridedSlice S224x224 ![2, 0] a slices_S226x224_o2_0_S224x224)

/-- The vertical difference of the horizontal sums. -/
def gradY (g : FVec F S226x512 .f32) : FVec F S224x224 .f32 :=
  have a : FVec F S226x224 .f32 := extractStridedSlice S226x224 ![0, 256] g slices_S226x512_o0_256_S226x224
  subf (extractStridedSlice S224x224 ![0, 0] a slices_S226x224_o0_0_S224x224) (extractStridedSlice S224x224 ![2, 0] a slices_S226x224_o2_0_S224x224)

/-- The gradient's magnitude times the window `w`. -/
def weighted (gx gy : FVec F S224x224 .f32) (w : Vec F S224x224 .f32) : FVec F S224x224 .f32 :=
  mulf (sqrt (addf (mulf gx gx) (mulf gy gy))) (shapeCast S224x224 w shapeCasts_S224x224_S224x224)

/-- The `y` component of the folded gradient: `gy` where `gx` is positive, `-gy` where it is negative, `|gy|` where it is zero. -/
def foldY (gx gy : FVec F S224x224 .f32) : FVec F S224x224 .f32 :=
  select (cmpf .oeq gx (broadcast S224x224 (Scalar.ofBits .f32 0x00000000#32))) (absf gy)
    (select (cmpf .olt gx (broadcast S224x224 (Scalar.ofBits .f32 0x00000000#32)))
      (subf (broadcast S224x224 (Scalar.ofBits .f32 0x00000000#32)) gy) gy)

/-- Minus the tangents of the eight inner bin edges, as the kernel's words. -/
def edgeWord : Fin 8 → BitVec 32 :=
  ![0xBEBA5A4E#32, 0xBF56CF3C#32, 0xBFDDB3D7#32, 0xC0B57B24#32, 0x40B57B24#32, 0x3FDDB3D7#32, 0x3F56CF3C#32, 0x3EBA5A4E#32]

/-- The sense of each comparison: at least zero below the vertical, at most zero above it. -/
def edgeSense : Fin 8 → CmpFPredicate := ![.oge, .oge, .oge, .oge, .ole, .ole, .ole, .ole]

/-- Whether the folded gradient `(u, v)` lies on edge `k` or beyond it. -/
def beyond (k : Fin 8) (u v : FVec F S224x224 .f32) : IVec S224x224 1 :=
  cmpf (edgeSense k) (addf (mulf (broadcast S224x224 (Scalar.ofBits .f32 (edgeWord k))) u) v)
    (broadcast S224x224 (Scalar.ofBits .f32 0x00000000#32))

/-- Whether the folded gradient lies in bin `k`: beyond the edge below it and not beyond the one above. -/
def inBin (k : Fin 9) (u v : FVec F S224x224 .f32) : IVec S224x224 1 :=
  match k with
  | ⟨0, _⟩ => xori (beyond 0 u v) (constantI S224x224 1 1#1)
  | ⟨1, _⟩ => andi (beyond 0 u v) (xori (beyond 1 u v) (constantI S224x224 1 1#1))
  | ⟨2, _⟩ => andi (beyond 1 u v) (xori (beyond 2 u v) (constantI S224x224 1 1#1))
  | ⟨3, _⟩ => andi (beyond 2 u v) (xori (beyond 3 u v) (constantI S224x224 1 1#1))
  | ⟨4, _⟩ => andi (beyond 3 u v) (xori (beyond 4 u v) (constantI S224x224 1 1#1))
  | ⟨5, _⟩ => andi (beyond 4 u v) (xori (beyond 5 u v) (constantI S224x224 1 1#1))
  | ⟨6, _⟩ => andi (beyond 5 u v) (xori (beyond 6 u v) (constantI S224x224 1 1#1))
  | ⟨7, _⟩ => andi (beyond 6 u v) (xori (beyond 7 u v) (constantI S224x224 1 1#1))
  | ⟨_, _⟩ => beyond 7 u v

/-- The two pooling products of a plane: its sums over the 7 by 7 windows. -/
def pool (p : Vec F S32x224 .f32) (q : Vec F S224x32 .f32) (z : FVec F S224x224 .f32) : FVec F S32x32 .f32 :=
  matmul dot_S32x224_S224x32_S32x32_1_0_0_1_n_n none
    (matmul dot_S32x224_S224x224_S32x224_1_0_0_1_n_n none p z (constant S32x224 .f32 0x00000000#32)) q (constant S32x32 .f32 0x00000000#32)

/-- The pooled weighted magnitude of bin `k`. -/
def binned (gx gy : FVec F S224x224 .f32) (w : Vec F S224x224 .f32) (p : Vec F S32x224 .f32) (q : Vec F S224x32 .f32) (k : Fin 9) :
    FVec F S32x32 .f32 :=
  pool p q (select (inBin k (foldY gx gy) (absf gx)) (weighted gx gy w) (broadcast S224x224 (Scalar.ofBits .f32 0x00000000#32)))

/-- The sum of the nine squares, first bin first. -/
def squares (b : Fin 9 → FVec F S32x32 .f32) : FVec F S32x32 .f32 :=
  addf (addf (addf (addf (addf (addf (addf (addf (mulf (b 0) (b 0)) (mulf (b 1) (b 1))) (mulf (b 2) (b 2))) (mulf (b 3) (b 3)))
    (mulf (b 4) (b 4))) (mulf (b 5) (b 5))) (mulf (b 6) (b 6))) (mulf (b 7) (b 7))) (mulf (b 8) (b 8))

/-- One over the length of the nine bins, the length kept above 1e-12. -/
def scale (b : Fin 9 → FVec F S32x32 .f32) : FVec F S32x32 .f32 :=
  divf (broadcast S32x32 (Scalar.ofBits .f32 0x3F800000#32))
    (maximumf (sqrt (squares b)) (broadcast S32x32 (Scalar.ofBits .f32 0x2B8CBCCC#32)))

/-- Bin `k` normalised. -/
def normed (b : Fin 9 → FVec F S32x32 .f32) (k : Fin 9) : FVec F S32x32 .f32 := mulf (b k) (scale b)

/-- The nine pooled bins of one image. -/
def bins (x : Vec F S1x226x226 .bf16) (d : Vec F S226x512 .bf16) (w : Vec F S224x224 .f32) (p : Vec F S32x224 .f32) (q : Vec F S224x32 .f32) :
    Fin 9 → FVec F S32x32 .f32 :=
  binned (gradX (taps x d)) (gradY (taps x d)) w p q

/-- What the kernel stores for bin `k` of one image. -/
def cell (x : Vec F S1x226x226 .bf16) (d : Vec F S226x512 .bf16) (w : Vec F S224x224 .f32) (p : Vec F S32x224 .f32) (q : Vec F S224x32 .f32)
    (k : Fin 9) : FVec F S1x1x32x32 .f32 :=
  shapeCast S1x1x32x32 (normed (bins x d w p q) k) shapeCasts_S32x32_S1x1x32x32

end Cert.Hog

end
-- ==== Proof.Hog.Consts.lean ====
/-
The constants of the two programs, as the extended reals they stand for.
-/
module

public import Idealize.ShloMosaic.Lib.IdealHost
public import proofs.«01_k».proof.Proof.Hog.Bins
public import proofs.«01_k».proof.Proof.Hog.Image

@[expose] public section

noncomputable section

namespace Cert.Hog

open Idealize.ShloMosaic

/-- The float32 word of two. -/
theorem word_two : Ideal.ofBits .f32 0x40000000#32 = ((2 : ℝ) : EReal) := by
  simp [Ideal.ofBits, Ideal.ieee, -EReal.coe_mul]; norm_num

/-- The float32 word of minus two. -/
theorem word_neg_two : Ideal.ofBits .f32 0xC0000000#32 = ((-2 : ℝ) : EReal) := by
  simp [Ideal.ofBits, Ideal.ieee, -EReal.coe_mul, -EReal.coe_neg]; norm_num

/-- The float32 word of minus one. -/
theorem word_neg_one : Ideal.ofBits .f32 0xBF800000#32 = ((-1 : ℝ) : EReal) := by
  simp [Ideal.ofBits, Ideal.ieee, -EReal.coe_mul, -EReal.coe_neg]; norm_num

/-- The float32 word of nine. -/
theorem word_nine : Ideal.ofBits .f32 0x41100000#32 = ((9 : ℝ) : EReal) := by
  simp [Ideal.ofBits, Ideal.ieee, -EReal.coe_mul]; norm_num

/-- The float32 word of plus infinity. -/
theorem word_top : Ideal.ofBits .f32 0x7F800000#32 = ⊤ := by
  simp [Ideal.ofBits, Ideal.ieee]

/-- The float32 word of the wedge's half width. -/
theorem word_eps : Ideal.ofBits .f32 0x34800000#32 = ((1 / 2^22 : ℝ) : EReal) := by
  simp [Ideal.ofBits, Ideal.ieee, -EReal.coe_mul]; norm_num

/-- The float32 word of the least length, 1e-12, is a positive real. -/
theorem word_least : ∃ x : ℝ, 0 < x ∧ Ideal.ofBits .f32 0x2B8CBCCC#32 = (x : EReal) := by
  refine ⟨_, ?_, by simp [Ideal.ofBits, Ideal.ieee, -EReal.coe_mul]; rfl⟩
  norm_num

/-- The bfloat16 word of two. -/
theorem word16_two : Ideal.ofBits .bf16 0x4000#16 = ((2 : ℝ) : EReal) := by
  simp [Ideal.ofBits, Ideal.ieee, -EReal.coe_mul]; norm_num

/-- The float32 words of the four slopes. -/
def slopeWord : Fin 4 → BitVec 32 := ![0x3EBA5A4E#32, 0x3F56CF3C#32, 0x3FDDB3D7#32, 0x40B57B24#32]

/-- They stand for the slopes. -/
theorem word_slope (j : Fin 4) : Ideal.ofBits .f32 (slopeWord j) = (slope j : EReal) := by
  fin_cases j <;> simp [slopeWord, slope, Ideal.ofBits, Ideal.ieee, -EReal.coe_mul] <;> norm_num

/-- The kernel's first four words stand for minus the slopes, its last four for the slopes in reverse. -/
theorem word_edge (k : Fin 8) : Ideal.ofBits .f32 (edgeWord k) =
    ((if h : k.val < 4 then -slope ⟨k.val, h⟩ else slope ⟨7 - k.val, by omega⟩ : ℝ) : EReal) := by
  fin_cases k <;> simp [edgeWord, slope, Ideal.ofBits, Ideal.ieee, -EReal.coe_mul, -EReal.coe_neg] <;> norm_num

end Cert.Hog

end
-- ==== Proof.Hog.Grad.lean ====
/-
The two gradient images the reference and the mask share, each a sum of six scaled slices of the padded image, and
their values at an index.
-/
module

public import proofs.«01_k».proof.Proof.Hog.Host
public import proofs.«01_k».proof.Proof.Hog.Sobel
public import proofs.«01_k».proof.Proof.Hog.Consts
public import Idealize.ShloMosaic.Lib.Pointwise

@[expose] public section

set_option maxRecDepth 16384

noncomputable section

namespace Cert.Hog

open Cert.ReferenceIdeal Cert.ReferenceIdeal.Gen Cert.ReferenceIdeal.Value Idealize.ShloMosaic Idealize.ShloMosaic.StableHlo

/-- The constant image holding the value of one word. -/
def flat (word : BitVec 32) : FVec Ideal S32x3x224x224 .f32 :=
  broadcastInDim S32x3x224x224 ![] bcast_S_S32x3x224x224 (constant S_ .f32 word)

/-- The horizontal gradient of padded images. -/
def imageX (x : FVec Ideal S32x3x226x226 .f32) : FVec Ideal S32x3x224x224 .f32 :=
  addf (addf (addf (addf (addf (addf (flat 0x00000000#32)
    (mulf (flat 0x3F800000#32) (extractStridedSlice S32x3x224x224 ![0, 0, 0, 0] x slices_S32x3x226x226_S32x3x224x224_0_0_0_0)))
    (mulf (flat 0xBF800000#32) (extractStridedSlice S32x3x224x224 ![0, 0, 0, 2] x slices_S32x3x226x226_S32x3x224x224_0_0_0_2)))
    (mulf (flat 0x40000000#32) (extractStridedSlice S32x3x224x224 ![0, 0, 1, 0] x slices_S32x3x226x226_S32x3x224x224_0_0_1_0)))
    (mulf (flat 0xC0000000#32) (extractStridedSlice S32x3x224x224 ![0, 0, 1, 2] x slices_S32x3x226x226_S32x3x224x224_0_0_1_2)))
    (mulf (flat 0x3F800000#32) (extractStridedSlice S32x3x224x224 ![0, 0, 2, 0] x slices_S32x3x226x226_S32x3x224x224_0_0_2_0)))
    (mulf (flat 0xBF800000#32) (extractStridedSlice S32x3x224x224 ![0, 0, 2, 2] x slices_S32x3x226x226_S32x3x224x224_0_0_2_2))

/-- The vertical gradient of padded images. -/
def imageY (x : FVec Ideal S32x3x226x226 .f32) : FVec Ideal S32x3x224x224 .f32 :=
  addf (addf (addf (addf (addf (addf (flat 0x00000000#32)
    (mulf (flat 0x3F800000#32) (extractStridedSlice S32x3x224x224 ![0, 0, 0, 0] x slices_S32x3x226x226_S32x3x224x224_0_0_0_0)))
    (mulf (flat 0x40000000#32) (extractStridedSlice S32x3x224x224 ![0, 0, 0, 1] x slices_S32x3x226x226_S32x3x224x224_0_0_0_1)))
    (mulf (flat 0x3F800000#32) (extractStridedSlice S32x3x224x224 ![0, 0, 0, 2] x slices_S32x3x226x226_S32x3x224x224_0_0_0_2)))
    (mulf (flat 0xBF800000#32) (extractStridedSlice S32x3x224x224 ![0, 0, 2, 0] x slices_S32x3x226x226_S32x3x224x224_0_0_2_0)))
    (mulf (flat 0xC0000000#32) (extractStridedSlice S32x3x224x224 ![0, 0, 2, 1] x slices_S32x3x226x226_S32x3x224x224_0_0_2_1)))
    (mulf (flat 0xBF800000#32) (extractStridedSlice S32x3x224x224 ![0, 0, 2, 2] x slices_S32x3x226x226_S32x3x224x224_0_0_2_2))

/-- The three by three patch of image `n`, channel `h` whose middle is pixel `(r, c)` of the unpadded image. -/
def around (x : FVec Ideal S32x3x226x226 .f32) (n : Fin 32) (h : Fin 3) (r c : Fin 224) (a b : Fin 3) : EReal :=
  x (ix4 n h ⟨r.val + a.val, by omega⟩ ⟨c.val + b.val, by omega⟩)

/-- The horizontal gradient at a pixel. -/
theorem imageX_apply (x : FVec Ideal S32x3x226x226 .f32) (n : Fin 32) (h : Fin 3) (r c : Fin 224) :
    (imageX x (ix4 n h r c) : EReal) = refX (around x n h r c) := by
  pointwise [imageX, flat]
  simp only [refX, around, word_two, word_neg_two, word_neg_one]
  simp only [Nat.add_comm 1, Nat.add_comm 2]
  rfl

/-- The vertical gradient at a pixel. -/
theorem imageY_apply (x : FVec Ideal S32x3x226x226 .f32) (n : Fin 32) (h : Fin 3) (r c : Fin 224) :
    (imageY x (ix4 n h r c) : EReal) = refY (around x n h r c) := by
  pointwise [imageY, flat]
  simp only [refY, around, word_two, word_neg_two, word_neg_one]
  simp only [Nat.add_comm 1, Nat.add_comm 2]
  rfl

/-- The reference's horizontal gradient. -/
theorem ref_gradX (V0 : Valuation τ sig (Elt Ideal)) : res_main_v25 V0 = imageX (padded (V0 (Proc.devRef .tc main_arg0))) := by
  rw [← ref_padded]
  rfl

/-- The reference's vertical gradient. -/
theorem ref_gradY (V0 : Valuation τ sig (Elt Ideal)) : res_main_v50 V0 = imageY (padded (V0 (Proc.devRef .tc main_arg0))) := by
  rw [← ref_padded]
  rfl

end Cert.Hog

end
-- ==== Proof.Hog.Words.lean ====
/-
The closed forms of the kernel's literal matrices: the horizontal Sobel taps and the pooling matrices.
-/
module

public import proofs.«01_k».proof.KernelIdeal

@[expose] public section

set_option maxRecDepth 100000

namespace Cert.Hog

open Cert.KernelIdeal

/-- The tap matrix, bfloat16 words: column `l` below 224 takes the difference of entries `l` and `l + 2`, column
    `256 + l` takes the 1, 2, 1 sum of entries `l`, `l + 1` and `l + 2`, every other column is zero. -/
def tapWord (j l : ℕ) : BitVec 16 :=
  if l < 224 then (if j = l then 0x3F80#16 else if j = l + 2 then 0xBF80#16 else 0#16)
  else if 256 ≤ l ∧ l < 480 then
    (if j + 256 = l then 0x3F80#16 else if j + 256 = l + 1 then 0x4000#16 else if j + 256 = l + 2 then 0x3F80#16 else 0#16)
  else 0#16

/-- The pooling matrices, float32 words: row `r` is one on the seven entries of window `r`. -/
def poolWord (r l : ℕ) : BitVec 32 := if l / 7 = r then 0x3F800000#32 else 0#32

/-- Fifteen rows of the first literal, from row `15 s` on, are the tap matrix's. -/
def TapRows (s : ℕ) : Prop := ∀ j : Fin 15, ∀ l : Fin 512, lit0t (512 * (15 * s + j.val) + l.val) = tapWord (15 * s + j.val) l.val

/-- It is decided entry by entry. -/
noncomputable instance (s : ℕ) : Decidable (TapRows s) := by unfold TapRows; infer_instance

end Cert.Hog

end
-- ==== Proof.Hog.Pixel.lean ====
/-
The kernel's values at one pixel, over the extended reals: the product with the tap matrix is the differences and
the 1, 2, 1 sums of each row, the two gradients are the kernel's sums of nine pixels, and the pooling products are
the sums over the 7 by 7 windows.
-/
module

public import proofs.«01_k».proof.Proof.Hog.Image
public import proofs.«01_k».proof.Proof.Hog.Consts
public import proofs.«01_k».proof.Proof.Hog.Sobel
public import proofs.«01_k».proof.Proof.Hog.Words
public import Idealize.ShloMosaic.Lib.Pointwise

@[expose] public section

set_option maxRecDepth 16384

noncomputable section

namespace Cert.Hog

open Cert.KernelIdeal Cert.KernelIdeal.Gen Idealize.ShloMosaic

/-- The nine pixels of a padded plane about place `(r, c)`. -/
def patch (x : Vec Ideal S1x226x226 .bf16) (r c : Fin 224) (a b : Fin 3) : EReal :=
  x (ix3 0 ⟨r.val + a.val, by omega⟩ ⟨c.val + b.val, by omega⟩)

/-- The matrix holds the tap words. -/
def IsTaps (d : Vec Ideal S226x512 .bf16) : Prop := ∀ (j : Fin 226) (l : Fin 512), d (ix2 j l) = Ideal.ofBits .bf16 (tapWord j.val l.val)

/-- A sum with one term that is not zero, chosen by its place. -/
theorem sum_at {n : ℕ} (f : Fin n → EReal) (k : Fin n) : (∑ j : Fin n, if j.val = k.val then f j else 0) = f k := by
  rw [Finset.sum_eq_single k]
  · simp
  · intro j _ hj
    exact if_neg fun h => hj (Fin.ext h)
  · simp

/-- The difference columns of the product with the tap matrix. -/
theorem taps_diff (x : Vec Ideal S1x226x226 .bf16) (d : Vec Ideal S226x512 .bf16) (hd : IsTaps d) (r : Fin 226) (l : Fin 224) :
    taps x d (ix2 r ⟨l.val, by omega⟩) = x (ix3 0 r ⟨l.val, by omega⟩) + -x (ix3 0 r ⟨l.val + 2, by omega⟩) := by
  pointwise [taps]
  have e : ∀ j : Fin 226, x (ix3 0 r j) * d (ix2 j ⟨l.val, by omega⟩) =
      (if j.val = l.val then x (ix3 0 r j) else 0) + (if j.val = l.val + 2 then -x (ix3 0 r j) else 0) := by
    intro j
    rw [hd, tapWord, if_pos (by exact l.isLt)]
    dsimp only
    by_cases h1 : j.val = l.val
    · rw [if_pos h1, if_pos h1, if_neg (by omega), Ideal.ofBits_one_bf16, mul_one, add_zero]
    · by_cases h2 : j.val = l.val + 2
      · rw [if_neg h1, if_neg h1, if_pos h2, if_pos h2, Ideal.ofBits_neg_one_bf16, zero_add, EReal.coe_one, mul_neg, mul_one]
      · rw [if_neg h1, if_neg h1, if_neg h2, if_neg h2, Ideal.ofBits_zero_bf16, mul_zero, add_zero]
  simp only [e, Finset.sum_add_distrib]
  rw [sum_at (fun j => x (ix3 0 r j)) ⟨l.val, by omega⟩, sum_at (fun j => -x (ix3 0 r j)) ⟨l.val + 2, by omega⟩]

/-- The 1, 2, 1 columns of the product with the tap matrix. -/
theorem taps_sum (x : Vec Ideal S1x226x226 .bf16) (d : Vec Ideal S226x512 .bf16) (hd : IsTaps d) (r : Fin 226) (l : Fin 224) :
    taps x d (ix2 r ⟨256 + l.val, by omega⟩) =
      x (ix3 0 r ⟨l.val, by omega⟩) + ((2 : ℝ) : EReal) * x (ix3 0 r ⟨l.val + 1, by omega⟩) + x (ix3 0 r ⟨l.val + 2, by omega⟩) := by
  pointwise [taps]
  have e : ∀ j : Fin 226, x (ix3 0 r j) * d (ix2 j ⟨256 + l.val, by omega⟩) =
      ((if j.val = l.val then x (ix3 0 r j) else 0) + (if j.val = l.val + 1 then ((2 : ℝ) : EReal) * x (ix3 0 r j) else 0)) +
        (if j.val = l.val + 2 then x (ix3 0 r j) else 0) := by
    intro j
    rw [hd, tapWord, if_neg (by dsimp only; omega), if_pos (by dsimp only; omega)]
    dsimp only
    by_cases h1 : j.val = l.val
    · rw [if_pos h1, if_pos (by omega), if_neg (by omega), if_neg (by omega), Ideal.ofBits_one_bf16, mul_one, add_zero, add_zero]
    · by_cases h2 : j.val = l.val + 1
      · rw [if_neg h1, if_neg (by omega), if_pos h2, if_pos (by omega), if_neg (by omega), word16_two, zero_add, add_zero, mul_comm]
      · by_cases h3 : j.val = l.val + 2
        · rw [if_neg h1, if_neg (by omega), if_neg h2, if_neg (by omega), if_pos h3, if_pos (by omega), Ideal.ofBits_one_bf16, mul_one, zero_add, zero_add]
        · rw [if_neg h1, if_neg (by omega), if_neg h2, if_neg (by omega), if_neg h3, if_neg (by omega), Ideal.ofBits_zero_bf16, mul_zero, add_zero, add_zero]
  simp only [e, Finset.sum_add_distrib]
  rw [sum_at (fun j => x (ix3 0 r j)) ⟨l.val, by omega⟩, sum_at (fun j => ((2 : ℝ) : EReal) * x (ix3 0 r j)) ⟨l.val + 1, by omega⟩,
    sum_at (fun j => x (ix3 0 r j)) ⟨l.val + 2, by omega⟩]

/-- The kernel's horizontal gradient at a pixel. -/
theorem gradX_apply (x : Vec Ideal S1x226x226 .bf16) (d : Vec Ideal S226x512 .bf16) (hd : IsTaps d) (r c : Fin 224) :
    gradX (taps x d) (ix2 r c) = kerX (patch x r c) := by
  have h := fun r' => taps_diff x d hd r' c
  pointwise [gradX]
  rw [h ⟨r.val, by omega⟩, h ⟨1 + r.val, by omega⟩, h ⟨2 + r.val, by omega⟩, word_two, kerX]
  simp only [patch, add_comm 1 r.val, add_comm 2 r.val]
  rfl

/-- The kernel's vertical gradient at a pixel. -/
theorem gradY_apply (x : Vec Ideal S1x226x226 .bf16) (d : Vec Ideal S226x512 .bf16) (hd : IsTaps d) (r c : Fin 224) :
    gradY (taps x d) (ix2 r c) = kerY (patch x r c) := by
  have h := fun r' => taps_sum x d hd r' c
  pointwise [gradY]
  rw [h ⟨r.val, by omega⟩, h ⟨2 + r.val, by omega⟩, kerY]
  simp only [patch, add_comm 2 r.val]
  rfl

/-- The matrix holds the pooling words. -/
def IsRows (p : Vec Ideal S32x224 .f32) : Prop := ∀ (r : Fin 32) (l : Fin 224), p (ix2 r l) = Ideal.ofBits .f32 (poolWord r.val l.val)

/-- The matrix holds the pooling words, transposed. -/
def IsCols (q : Vec Ideal S224x32 .f32) : Prop := ∀ (l : Fin 224) (r : Fin 32), q (ix2 l r) = Ideal.ofBits .f32 (poolWord r.val l.val)

/-- Entry `a` of window `r`. -/
def within (r : Fin 32) (a : Fin 7) : Fin 224 := ⟨7 * r.val + a.val, by omega⟩

/-- The sum over the entries of one window. -/
theorem sum_window (f : Fin 224 → EReal) (r : Fin 32) : (∑ l : Fin 224, if l.val / 7 = r.val then f l else 0) = ∑ a : Fin 7, f (within r a) := by
  rw [← Finset.sum_filter]
  symm
  refine Finset.sum_bij (fun a _ => within r a) ?_ ?_ ?_ ?_
  · intro a _
    rw [Finset.mem_filter]
    refine ⟨Finset.mem_univ _, ?_⟩
    simp only [within]
    omega
  · intro a _ b _ h
    have := congrArg Fin.val h
    simp only [within] at this
    exact Fin.ext (by omega)
  · intro l hl
    rw [Finset.mem_filter] at hl
    refine ⟨⟨l.val % 7, Nat.mod_lt _ (by norm_num)⟩, Finset.mem_univ _, Fin.ext ?_⟩
    simp only [within]
    omega
  · intro a _
    rfl

/-- A product with a pooling word keeps a factor or drops it. -/
theorem poolWord_mul (r l : ℕ) (y : EReal) : Ideal.ofBits .f32 (poolWord r l) * y = if l / 7 = r then y else 0 := by
  rw [poolWord]
  split_ifs
  · rw [Ideal.ofBits_one_f32, one_mul]
  · rw [Ideal.ofBits_zero_f32, zero_mul]

/-- The pooling products at a cell: the sum over its window. -/
theorem pool_apply (p : Vec Ideal S32x224 .f32) (q : Vec Ideal S224x32 .f32) (hp : IsRows p) (hq : IsCols q) (z : FVec Ideal S224x224 .f32)
    (r c : Fin 32) : pool p q z (ix2 r c) = ∑ b : Fin 7, ∑ a : Fin 7, z (ix2 (within r a) (within c b)) := by
  have h : ∀ l : Fin 224, (∑ j : Fin 224, p (ix2 r j) * z (ix2 j l)) = ∑ a : Fin 7, z (ix2 (within r a) l) := by
    intro l
    rw [← sum_window (fun j => z (ix2 j l)) r]
    exact Finset.sum_congr rfl fun j _ => by rw [hp, poolWord_mul]
  pointwise [pool]
  rw [← sum_window (fun l => ∑ a : Fin 7, z (ix2 (within r a) l)) c]
  refine Finset.sum_congr rfl fun l _ => ?_
  rw [h, hq, mul_comm, poolWord_mul]

end Cert.Hog

end
-- ==== Proof.Hog.Choice.lean ====
/-
The kernel's choice of bin at one pixel whose gradient is a pair of real numbers: it keeps the weighted magnitude in
the slot the folded gradient lies in and puts zero in the others.
-/
module

public import proofs.«01_k».proof.Proof.Hog.Pixel

@[expose] public section

set_option maxRecDepth 16384

noncomputable section

namespace Cert.Hog

open Cert.KernelIdeal Cert.KernelIdeal.Gen Idealize.ShloMosaic

/-- Exclusive or with one is the negation. -/
theorem bit_not (a : BitVec 1) : IntOp.xori a 1#1 = 1#1 ↔ ¬ a = 1#1 := by
  revert a
  decide

/-- The conjunction of two bits. -/
theorem bit_and (a b : BitVec 1) : IntOp.andi a b = 1#1 ↔ a = 1#1 ∧ b = 1#1 := by
  revert a b
  decide

/-- The bit of a decision is set when what was decided holds. -/
theorem bit_decide (q : Prop) [Decidable q] : BitVec.ofBool (decide q) = 1#1 ↔ q := by
  by_cases h : q <;> simp [h]

/-- At a pixel with real components the kernel's comparison is `past`. -/
theorem beyond_iff (k : Fin 8) (u v : FVec Ideal S224x224 .f32) (r c : Fin 224) {a b : ℝ} (hu : u (ix2 r c) = (a : EReal))
    (hv : v (ix2 r c) = (b : EReal)) : beyond k u v (ix2 r c) = 1#1 ↔ past k a b := by
  pointwise [beyond]
  rw [hu, hv, word_edge, ← EReal.coe_mul, ← EReal.coe_add, past]
  split_ifs with h
  · have e : edgeSense k = .oge := by
      revert h
      fin_cases k <;> simp [edgeSense]
    rw [e]
    refine (bit_decide _).trans ?_
    rw [EReal.coe_nonneg]
    constructor <;> intro <;> linarith
  · have e : edgeSense k = .ole := by
      revert h
      fin_cases k <;> simp [edgeSense]
    rw [e]
    refine (bit_decide _).trans ?_
    rw [EReal.coe_nonpos]
    constructor <;> intro <;> linarith

/-- A bin's bit is set when the edge below is passed and the edge above is not. -/
theorem inBin_iff (k : Fin 9) (u v : FVec Ideal S224x224 .f32) (y : S224x224.Idx) : inBin k u v y = 1#1 ↔
    (∀ h : 0 < k.val, beyond ⟨k.val - 1, by omega⟩ u v y = 1#1) ∧ (∀ h : k.val < 8, ¬ beyond ⟨k.val, h⟩ u v y = 1#1) := by
  have first : inBin 0 u v y = 1#1 ↔ ¬ beyond 0 u v y = 1#1 := bit_not _
  have mid : ∀ a b : IVec S224x224 1, (andi a (xori b (constantI S224x224 1 1#1))) y = 1#1 ↔ a y = 1#1 ∧ ¬ b y = 1#1 :=
    fun a b => (bit_and _ _).trans (and_congr Iff.rfl (bit_not _))
  by_cases h0 : 0 < k.val <;> by_cases h8 : k.val < 8
  · simp only [h0, h8, forall_true_left]
    refine Iff.trans ?_ (mid _ _)
    fin_cases k <;> first | exact Iff.rfl | (exfalso; revert h0 h8; decide)
  · obtain rfl : k = 8 := Fin.ext (by omega)
    simp only [h0, h8, forall_true_left, IsEmpty.forall_iff, and_true]
    exact Iff.rfl
  · obtain rfl : k = 0 := Fin.ext (by omega)
    simp only [h0, h8, forall_true_left, IsEmpty.forall_iff, true_and]
    exact first
  · omega

/-- The folded component at a pixel with real components. -/
theorem foldY_apply (gx gy : FVec Ideal S224x224 .f32) (r c : Fin 224) {a b : ℝ} (hx : gx (ix2 r c) = (a : EReal)) (hy : gy (ix2 r c) = (b : EReal)) :
    foldY gx gy (ix2 r c) = (fold a b : EReal) := by
  pointwise [foldY]
  rw [hx, hy, fold]
  simp only [EReal.coe_eq_zero, EReal.coe_neg', zero_sub]
  split_ifs
  · rfl
  · rfl
  · rfl

/-- The absolute value at a pixel with a real component. -/
theorem absf_apply (gx : FVec Ideal S224x224 .f32) (r c : Fin 224) {a : ℝ} (hx : gx (ix2 r c) = (a : EReal)) :
    absf gx (ix2 r c) = ((|a| : ℝ) : EReal) := by
  pointwise
  rw [hx]
  rfl

/-- What the kernel pools for bin `k` at a pixel with real components. -/
theorem kept (k : Fin 9) (gx gy w : FVec Ideal S224x224 .f32) (r c : Fin 224) {a b : ℝ} (hx : gx (ix2 r c) = (a : EReal))
    (hy : gy (ix2 r c) = (b : EReal)) [Decidable (slot k (fold a b) |a|)] :
    select (inBin k (foldY gx gy) (absf gx)) (weighted gx gy w) (broadcast S224x224 (Scalar.ofBits .f32 0x00000000#32)) (ix2 r c) =
      if slot k (fold a b) |a| then Ideal.sqrt ((a : EReal) * a + (b : EReal) * b) * w (ix2 r c) else 0 := by
  have hs : inBin k (foldY gx gy) (absf gx) (ix2 r c) = 1#1 ↔ slot k (fold a b) |a| := by
    rw [inBin_iff, slot]
    simp only [beyond_iff _ _ _ r c (foldY_apply gx gy r c hx hy) (absf_apply gx r c hx)]
  pointwise [weighted]
  rw [hx, hy]
  split_ifs with h
  · rw [hs.2 h]
    rfl
  · rw [(BitVec.eq_zero_or_eq_one _).resolve_right (fun e => h (hs.1 e))]
    rfl

end Cert.Hog

end
-- ==== Proof.Hog.Mask.lean ====
/-
What the mask says: where its bit is set, every pixel of the cell's window has a finite gradient that lies off the
four lines on which two bins meet.
-/
module

public import proofs.«01_k».proof.Proof.Hog.Grad
public import proofs.«01_k».proof.Proof.Hog.Choice

@[expose] public section

set_option maxRecDepth 16384

noncomputable section

namespace Cert.Hog

open Cert.On_clear Cert.On_clear.Gen Idealize.ShloMosaic Idealize.ShloMosaic.StableHlo

/-- The bits of the pixels at which one absolute value is off the line of one slope over the other. -/
def offLine (word : BitVec 32) (u v : FVec Ideal S32x3x224x224 .f32) : IVec S32x3x224x224 1 :=
  cmpf .oge (Host.absf (subf u (mulf (flat word) v))) (mulf (flat 0x34800000#32) (mulf (flat word) v))

/-- The bits of the pixels the mask lets through. -/
def clearPixel (gx gy : FVec Ideal S32x3x224x224 .f32) : IVec S32x3x224x224 1 :=
  andi (andi (andi (andi (andi (cmpf .olt (Host.absf gx) (flat 0x7F800000#32)) (cmpf .olt (Host.absf gy) (flat 0x7F800000#32)))
    (offLine (slopeWord 0) (Host.absf gx) (Host.absf gy))) (offLine (slopeWord 1) (Host.absf gx) (Host.absf gy)))
    (offLine (slopeWord 2) (Host.absf gx) (Host.absf gy))) (offLine (slopeWord 3) (Host.absf gx) (Host.absf gy))

/-- The conjunction over the forty-nine pixels of each cell. -/
def clearCell (z : IVec S32x3x224x224 1) : IVec S32x3x32x32 1 :=
  Host.reduce IntOp.andi (shapeCast S32x3x32x7x32x7 z shapeCasts_S32x3x224x224_S32x3x32x7x32x7) (constantI S_ 1 1#1)
    reducesTo_S32x3x32x7x32x7_S32x3x32x32_d3_5 h_S_

/-- The mask is the cells' conjunction, the same for each of the nine bins. -/
theorem mask_eq (x : FVec Ideal S32x3x224x224 .f32) : fn x =
    broadcastInDim S96x9x32x32 ![0, 1, 2, 3] bcast_S96x1x32x32_S96x9x32x32_0_1_2_3
      (broadcastInDim S96x1x32x32 ![0, 2, 3] bcast_S96x32x32_S96x1x32x32_0_2_3
        (shapeCast S96x32x32 (clearCell (clearPixel (imageX (padded x)) (imageY (padded x)))) shapeCasts_S32x3x32x32_S96x32x32)) := rfl

/-- A conjunction over a cell is set only where every pixel of the cell is. -/
theorem clearCell_apply (z : IVec S32x3x224x224 1) (n : Fin 32) (h : Fin 3) (r c : Fin 32) (e : clearCell z (ix4 n h r c) = 1#1) (a b : Fin 7) :
    z (ix4 n h ⟨7 * r.val + a.val, by omega⟩ ⟨7 * c.val + b.val, by omega⟩) = 1#1 := by
  have all : ∀ i : S32x3x32x7x32x7.Idx, reducesTo_S32x3x32x7x32x7_S32x3x32x32_d3_5.drop i = ix4 n h r c →
      shapeCast S32x3x32x7x32x7 z shapeCasts_S32x3x224x224_S32x3x32x7x32x7 i = 1#1 := by
    rw [clearCell, Host.reduce_eq_fold] at e
    intro i hi
    have := (Finset.fold_op_rel_iff_and (op := IntOp.andi (w := 1)) (r := fun _ z => z = 1#1) (c := 0#1) (fun {_ y z} => bit_and y z)).1 e
    exact this.2 i (by simp [hi])
  have drops : reducesTo_S32x3x32x7x32x7_S32x3x32x32_d3_5.drop (ix6 n h r a c b) = ix4 n h r c := by
    funext d
    apply Fin.ext
    match d with
    | ⟨0, _⟩ => rfl
    | ⟨1, _⟩ => rfl
    | ⟨2, _⟩ => rfl
    | ⟨3, _⟩ => rfl
  have := all _ drops
  pointwise at this
  simp only [Nat.mul_comm 7]
  exact this

/-- Where the mask lets a pixel through, its gradient is a pair of real numbers off the four lines. -/
theorem clearPixel_apply (gx gy : FVec Ideal S32x3x224x224 .f32) (n : Fin 32) (h : Fin 3) (r c : Fin 224) (e : clearPixel gx gy (ix4 n h r c) = 1#1) :
    ∃ a b : ℝ, gx (ix4 n h r c) = (a : EReal) ∧ gy (ix4 n h r c) = (b : EReal) ∧ Off a b := by
  pointwise [clearPixel, offLine, flat] at e
  simp only [bit_and, bit_decide, word_top, word_slope, word_eps] at e
  obtain ⟨⟨⟨⟨⟨hx, hy⟩, o0⟩, o1⟩, o2⟩, o3⟩ := e
  obtain ⟨a, ha⟩ := finite_of_abs_lt hx
  obtain ⟨b, hb⟩ := finite_of_abs_lt hy
  have line : ∀ j : Fin 4, ((1 / 2 ^ 22 : ℝ) : EReal) * ((slope j : EReal) * FloatOps.absf (F := Ideal) (φ := .f32) (gy (ix4 n h r c))) ≤
      (FloatOps.absf (F := Ideal) (φ := .f32) (FloatOps.absf (F := Ideal) (φ := .f32) (gx (ix4 n h r c)) -
        (slope j : EReal) * FloatOps.absf (F := Ideal) (φ := .f32) (gy (ix4 n h r c)) : EReal) : EReal) := by
    intro j
    match j with
    | ⟨0, _⟩ => exact o0
    | ⟨1, _⟩ => exact o1
    | ⟨2, _⟩ => exact o2
    | ⟨3, _⟩ => exact o3
  refine ⟨a, b, ha, hb, fun j => ?_⟩
  have := line j
  rw [ha, hb] at this
  have abs_real : ∀ y : ℝ, (FloatOps.absf (F := Ideal) (φ := .f32) (y : EReal) : EReal) = ((|y| : ℝ) : EReal) := fun _ => rfl
  rw [abs_real, abs_real, ← EReal.coe_mul, ← EReal.coe_mul, ← EReal.coe_sub, abs_real, EReal.coe_le_coe_iff] at this
  exact this

/-- Where the mask is set, every pixel of the cell's window has a gradient of two real numbers off the four lines. -/
theorem mask_apply (x : FVec Ideal S32x3x224x224 .f32) (n : Fin 32) (h : Fin 3) (k : Fin 9) (r c : Fin 32)
    (e : fn x (ix4 ⟨3 * n.val + h.val, by omega⟩ k r c) = 1#1) (a b : Fin 7) : ∃ gx gy : ℝ,
      imageX (padded x) (ix4 n h ⟨7 * r.val + a.val, by omega⟩ ⟨7 * c.val + b.val, by omega⟩) = (gx : EReal) ∧
      imageY (padded x) (ix4 n h ⟨7 * r.val + a.val, by omega⟩ ⟨7 * c.val + b.val, by omega⟩) = (gy : EReal) ∧ Off gx gy := by
  refine clearPixel_apply _ _ _ _ _ _ (clearCell_apply _ _ _ _ _ ?_ _ _)
  rw [mask_eq] at e
  pointwise at e
  exact e

end Cert.Hog

end
-- ==== Proof.Hog.Ref.lean ====
/-
The reference's histogram: the bin it names at a pixel, the magnitude it puts there, and the sum over a cell.
-/
module

public import proofs.«01_k».proof.Proof.Hog.Grad
public import proofs.«01_k».proof.Proof.Hog.Bins

@[expose] public section

set_option maxRecDepth 16384

noncomputable section

namespace Cert.Hog

open Cert.ReferenceIdeal Cert.ReferenceIdeal.Gen Cert.ReferenceIdeal.Value Idealize.ShloMosaic Idealize.ShloMosaic.StableHlo

/-- The image holding one whole number. -/
def flatI (z : IVec S_ 32) : IVec S32x3x224x224 32 := broadcastInDim S32x3x224x224 ![] bcast_S_S32x3x224x224 z

/-- The reference's bins: the remainder by nine, made nonnegative. -/
def refBins (V0 : Valuation τ sig (Elt Ideal)) : IVec S32x3x224x224 32 :=
  select (andi (cmpi .ne (cmpi .slt (res_main_call1_v4 V0) (flatI (constantI S_ 32 0#32)))
      (broadcastInDim S32x3x224x224 ![] bcast_S_S32x3x224x224 (cmpi .slt (res_main_call1_v2 V0) (constantI S_ 32 0#32))))
      (cmpi .ne (res_main_call1_v4 V0) (flatI (constantI S_ 32 0#32))))
    (addi (res_main_call1_v4 V0) (flatI (res_main_call1_v2 V0))) (res_main_call1_v4 V0)

/-- The reference's weighted magnitudes. -/
def refNorm (V0 : Valuation τ sig (Elt Ideal)) : FVec Ideal S32x3x224x224 .f32 :=
  mulf (Host.sqrt (addf (mulf (res_main_v25 V0) (res_main_v25 V0)) (mulf (res_main_v50 V0) (res_main_v50 V0))))
    (broadcastInDim S32x3x224x224 ![0, 1, 2, 3] bcast_S1x1x224x224_S32x3x224x224_0_1_2_3
      (broadcastInDim S1x1x224x224 ![2, 3] bcast_S224x224_S1x1x224x224_2_3 weights))

/-- The reference's image of one bin: the weighted magnitude where the bin is that one, zero elsewhere. -/
def refTerm (V0 : Valuation τ sig (Elt Ideal)) : FVec Ideal S32x3x9x224x224 .f32 :=
  mulf (uitofp .f32 (cmpi .eq
      (broadcastInDim S32x3x9x224x224 ![0, 1, 2, 3, 4] bcast_S32x3x1x224x224_S32x3x9x224x224_0_1_2_3_4
        (broadcastInDim S32x3x1x224x224 ![0, 1, 3, 4] bcast_S32x3x224x224_S32x3x1x224x224_0_1_3_4 (refBins V0)))
      (broadcastInDim S32x3x9x224x224 ![0, 1, 2, 3, 4] bcast_S1x1x9x1x1_S32x3x9x224x224_0_1_2_3_4
        (broadcastInDim S1x1x9x1x1 ![2] bcast_S9_S1x1x9x1x1_2 (iotaInDim S9 32 0)))))
    (broadcastInDim S32x3x9x224x224 ![0, 1, 2, 3, 4] bcast_S32x3x1x224x224_S32x3x9x224x224_0_1_2_3_4
      (broadcastInDim S32x3x1x224x224 ![0, 1, 3, 4] bcast_S32x3x224x224_S32x3x1x224x224_0_1_3_4 (refNorm V0)))

/-- The reference's histogram is the sum of those images over the cells. -/
theorem ref_hist (V0 : Valuation τ sig (Elt Ideal)) : res_main_v101 V0 =
    Host.reduceAdd (shapeCast S32x3x9x32x7x32x7 (refTerm V0) shapeCasts_S32x3x9x224x224_S32x3x9x32x7x32x7) (constant S_ .f32 0x00000000#32)
      reducesTo_S32x3x9x32x7x32x7_S32x3x9x32x32_d4_6 h_S_ := rfl

/-- Reading a whole number's remainder by nine off its word, made nonnegative as the reference makes it. -/
theorem word_mod (z : ℤ) (h : -9 ≤ z ∧ z ≤ 9) (q : BitVec 32) (hq : q = IntOp.remsi ArithUnit.host (BitVec.ofInt 32 z) 9#32) :
    Scalar.select (IntOp.andi (IntOp.cmpi .ne (IntOp.cmpi .slt q 0#32) (IntOp.cmpi .slt 9#32 0#32)) (IntOp.cmpi .ne q 0#32)) (IntOp.addi q 9#32) q =
      BitVec.ofInt 32 (z % 9) := by
  subst hq
  obtain ⟨h0, h1⟩ := h
  interval_cases z <;> rfl

/-- The reference's half turn is the angle of the point one to the left. -/
theorem half_turn : (id (Host.atan2 (constant (F := Ideal) S_ .f32 0x00000000#32) (constant S_ .f32 0xBF800000#32)) ix0 : EReal) = (Real.pi : EReal) := by
  have : (id (Host.atan2 (constant (F := Ideal) S_ .f32 0x00000000#32) (constant S_ .f32 0xBF800000#32)) ix0 : EReal) =
      Ideal.atan2 (Ideal.ofBits .f32 0x00000000#32) (Ideal.ofBits .f32 0xBF800000#32) := rfl
  rw [this, word_neg_one, Ideal.ofBits_zero_f32, ← EReal.coe_zero]
  have : Ideal.atan2 ((0 : ℝ) : EReal) ((-1 : ℝ) : EReal) = ((angle 0 (-1) : ℝ) : EReal) := rfl
  rw [this]
  congr 1
  norm_num [angle]

/-- The word of the ninth of the half turn an angle lies in. -/
theorem floor_word (a b : ℝ) (p : EReal) (hp : p = (Real.pi : EReal)) :
    Ideal.fptosi 32 (Ideal.liftRound Int.floor (Ideal.div (Ideal.atan2 (a : EReal) (b : EReal)) p * Ideal.ofBits .f32 0x41100000#32)) =
      BitVec.ofInt 32 (ninth a b) := by
  have e : Ideal.div (Ideal.atan2 (a : EReal) (b : EReal)) p * Ideal.ofBits .f32 0x41100000#32 = ((angle a b / Real.pi * 9 : ℝ) : EReal) := by
    rw [hp, word_nine, Ideal.div, if_neg (by simpa using Real.pi_ne_zero), ← EReal.coe_inv, div_eq_mul_inv, EReal.coe_mul, EReal.coe_mul]
    rfl
  have f : Ideal.liftRound Int.floor ((angle a b / Real.pi * 9 : ℝ) : EReal) = ((ninth a b : ℝ) : EReal) := rfl
  rw [e, f]
  obtain ⟨h0, h1⟩ := ninth_range a b
  generalize ninth a b = z at h0 h1
  have g : Ideal.toIntClamped (-(2 ^ (32 - 1) : Nat)) ((2 ^ (32 - 1) : Nat) - 1) ((z : ℝ) : EReal) =
      max (-((2 ^ (32 - 1) : Nat) : ℤ)) (min (((2 ^ (32 - 1) : Nat) : ℤ) - 1) (if 0 ≤ (z : ℝ) then ⌊(z : ℝ)⌋ else ⌈(z : ℝ)⌉)) := rfl
  rw [Ideal.fptosi, g, Int.floor_intCast, Int.ceil_intCast, ite_self, min_eq_right (by norm_num; omega), max_eq_right (by norm_num; omega)]

/-- Comparing the word of a bin with the word of its number. -/
theorem word_same (z : ℤ) (h : 0 ≤ z ∧ z < 9) (k : Fin 9) :
    IntOp.cmpi .eq (BitVec.ofInt 32 z) (BitVec.ofNat 32 k.val) = if z = k.val then 1#1 else 0#1 := by
  obtain ⟨h0, h1⟩ := h
  revert k
  interval_cases z <;> decide

/-- The bin the reference names at a pixel with real components. -/
theorem refBins_apply (V0 : Valuation τ sig (Elt Ideal)) (n : Fin 32) (h : Fin 3) (r c : Fin 224) {a b : ℝ}
    (hx : res_main_v25 V0 (ix4 n h r c) = (a : EReal)) (hy : res_main_v50 V0 (ix4 n h r c) = (b : EReal)) :
    refBins V0 (ix4 n h r c) = BitVec.ofInt 32 (ninth a b % 9) := by
  have q : res_main_call1_v4 V0 (ix4 n h r c) = IntOp.remsi ArithUnit.host (BitVec.ofInt 32 (ninth a b)) 9#32 := by
    pointwise [res_main_call1_v4, res_main_call1_v2, res_main_call1_v0]
    rw [hx, hy]
    refine congr (congrArg _ ?_) rfl
    exact floor_word a b _ half_turn
  pointwise [refBins, flatI]
  exact word_mod _ (ninth_range a b) _ q

/-- The reference's image of bin `k` at a pixel with real components. -/
theorem refTerm_apply (V0 : Valuation τ sig (Elt Ideal)) (n : Fin 32) (h : Fin 3) (k : Fin 9) (r c : Fin 224) {a b : ℝ}
    (hx : res_main_v25 V0 (ix4 n h r c) = (a : EReal)) (hy : res_main_v50 V0 (ix4 n h r c) = (b : EReal)) :
    (refTerm V0 (ix5 n h k r c) : EReal) = if ninth a b % 9 = k.val then Ideal.sqrt ((a : EReal) * a + (b : EReal) * b) * weights (F := Ideal) (ix2 r c) else 0 := by
  have e := refBins_apply V0 n h r c hx hy
  pointwise [refTerm, refNorm]
  rw [hx, hy, e, word_same _ ⟨by omega, by omega⟩]
  split_ifs
  · have : (FloatOps.uitofp (F := Ideal) .f32 1#1 : EReal) = ((((1#1 : BitVec 1).toNat : ℕ) : ℝ) : EReal) := rfl
    rw [this]
    simp
  · have : (FloatOps.uitofp (F := Ideal) .f32 0#1 : EReal) = ((((0#1 : BitVec 1).toNat : ℕ) : ℝ) : EReal) := rfl
    rw [this]
    simp

/-- A sum over the pixels of a cell. -/
theorem sum_cells (v : FVec Ideal S32x3x9x224x224 .f32) (n : Fin 32) (h : Fin 3) (k : Fin 9) (r c : Fin 32) :
    (Host.reduceAdd (shapeCast S32x3x9x32x7x32x7 v shapeCasts_S32x3x9x224x224_S32x3x9x32x7x32x7) (constant S_ .f32 0x00000000#32)
      reducesTo_S32x3x9x32x7x32x7_S32x3x9x32x32_d4_6 h_S_ (ix5 n h k r c) : EReal) =
    ∑ p : Fin 7 × Fin 7, v (ix5 n h k ⟨7 * r.val + p.1.val, by omega⟩ ⟨7 * c.val + p.2.val, by omega⟩) := by
  have fiber : ∀ i : S32x3x9x32x7x32x7.Idx, reducesTo_S32x3x9x32x7x32x7_S32x3x9x32x32_d4_6.drop i = ix5 n h k r c ↔
      ∃ p : Fin 7 × Fin 7, ix7 n h k r p.1 c p.2 = i := by
    intro i
    constructor
    · intro e
      refine ⟨(i 4, i 6), ?_⟩
      funext d
      apply Fin.ext
      match d with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => exact (congrArg Fin.val (congrFun e 3)).symm
      | ⟨4, _⟩ => rfl
      | ⟨5, _⟩ => exact (congrArg Fin.val (congrFun e 4)).symm
      | ⟨6, _⟩ => rfl
    · rintro ⟨p, rfl⟩
      funext d
      apply Fin.ext
      match d with
      | ⟨0, _⟩ => rfl
      | ⟨1, _⟩ => rfl
      | ⟨2, _⟩ => rfl
      | ⟨3, _⟩ => rfl
      | ⟨4, _⟩ => rfl
  rw [Host.reduceAdd_apply]
  refine (congrArg (Ideal.ofBits .f32 0x00000000#32 + ·) (Finset.sum_filter_eq_sum_of_fiber _ (fun p : Fin 7 × Fin 7 => ix7 n h k r p.1 c p.2)
    (fun p q e => Prod.ext (congrFun e 4) (congrFun e 6)) fiber _)).trans ?_
  rw [Ideal.ofBits_zero_f32, zero_add]
  refine Finset.sum_congr rfl fun p _ => ?_
  pointwise
  simp only [Nat.mul_comm 7]

end Cert.Hog

end
-- ==== Proof.Hog.Out.lean ====
/-
The kernel's body leaves, in its output block of twelve images, the normalised bins of each image.
-/
module

public import proofs.«01_k».proof.Proof.Hog.Image
public import proofs.«01_k».proof.Proof.Gen.KernelIdeal.Frame
public import Idealize.ShloMosaic.Lib.Pipeline.Value
public import Idealize.ShloMosaic.Lib.Pipeline.ValueKit
public import Idealize.ShloMosaic.Lib.Pipeline.ReadBack
public import Idealize.ShloMosaic.Lib.Pointwise

@[expose] public section

noncomputable section

namespace Cert.Hog

open Cert.KernelIdeal Cert.KernelIdeal.Gen Idealize.ShloMosaic

variable {F : FTy → Type} [FloatOps F]
variable (x0 : Vec F S12x226x226 .bf16) (x1 : Vec F S226x512 .bf16) (x2 : Vec F S224x224 .f32) (x3 : Vec F S32x224 .f32) (x4 : Vec F S224x32 .f32)

/-- Image `j` of a block of twelve padded planes. -/
def plane (j : Fin 12) : Vec F S1x226x226 .bf16 := fun y => x0 (ix3 j (y 1) (y 2))

/-- The output block: bin `k` of image `j` at each cell. -/
def blockOut : Vec F S12x9x32x32 .f32 := fun i => normed (bins (plane x0 (i 0)) x1 x2 x3 x4) (i 1) (ix2 (i 2) (i 3))

/-- A load of image `j` from the block is that image. -/
theorem ld_plane (j : Nat) (hj : j < 12) (inb) :
    View.ld x0 (Rect.unit (s := S12x226x226) ![j, 0, 0] S1x226x226.size inb) = plane x0 ⟨j, hj⟩ := by
  funext y
  refine View.ld_unit_apply_of x0 _ _ inb y _ fun a => ?_
  match a with
  | ⟨0, _⟩ =>
    have h : (y 0).val < 1 := (y 0).isLt
    show j = j + (y 0).val
    omega
  | ⟨1, _⟩ => exact (Nat.zero_add _).symm
  | ⟨2, _⟩ => exact (Nat.zero_add _).symm

/-- A cell's bin read at an index of its one image and one bin. -/
theorem cell_apply (x : Vec F S1x226x226 .bf16) (k : Fin 9) (y : S1x1x32x32.Idx) :
    cell x x1 x2 x3 x4 k y = normed (bins x x1 x2 x3 x4) k (ix2 (y 2) (y 3)) := by
  unfold cell
  generalize normed (bins x x1 x2 x3 x4) k = z
  idx_vars y
  pointwise

/-- One store of the body, bin `k` of image `j`, is that part of `blockOut`. -/
theorem tile {j k : Nat} (hj : j < 12) (hk : k < 9) {inb inb'} {p : Vec F S1x1x32x32 .f32}
    (h : p = cell (View.ld x0 (Rect.unit (s := S12x226x226) ![j, 0, 0] S1x226x226.size inb')) (View.ld x1 r0_1) (View.ld x2 r0_2)
      (View.ld x3 r0_3) (View.ld x4 r0_4) ⟨k, hk⟩) (y : S1x1x32x32.Idx) :
    p y = blockOut x0 x1 x2 x3 x4 ((Rect.unit (s := S12x9x32x32) ![j, k, 0, 0] S1x1x32x32.size inb).emb y) := by
  have e1 : View.ld x1 r0_1 = x1 := View.ld_unit_lit _ x1 (by decide)
  have e2 : View.ld x2 r0_2 = x2 := View.ld_unit_lit _ x2 (by decide)
  have e3 : View.ld x3 r0_3 = x3 := View.ld_unit_lit _ x3 (by decide)
  have e4 : View.ld x4 r0_4 = x4 := View.ld_unit_lit _ x4 (by decide)
  rw [h, ld_plane x0 j hj, e1, e2, e3, e4, cell_apply]
  have h0 : (y 0).val < 1 := (y 0).isLt
  have h1 : (y 1).val < 1 := (y 1).isLt
  have hi : (Rect.unit (s := S12x9x32x32) ![j, k, 0, 0] S1x1x32x32.size inb).emb y = ix4 ⟨j, hj⟩ ⟨k, hk⟩ (y 2) (y 3) := by
    refine funext fun a => Fin.ext ?_
    refine (Rect.idx_unit_val _ _ inb y a).trans ?_
    match a with
    | ⟨0, _⟩ => show j + (y 0).val = j; omega
    | ⟨1, _⟩ => show k + (y 1).val = k; omega
    | ⟨2, _⟩ => exact Nat.zero_add _
    | ⟨3, _⟩ => exact Nat.zero_add _
  rw [hi]
  rfl

/-- Stores that are parts of `blockOut`, with one more before them. -/
theorem tiles_cons {j k : Nat} (hj : j < 12) (hk : k < 9) {inb inb'} {p : Vec F S1x1x32x32 .f32} {L : List (View.Piece (Elt F) S12x9x32x32 .f32)}
    (h : p = cell (View.ld x0 (Rect.unit (s := S12x226x226) ![j, 0, 0] S1x226x226.size inb')) (View.ld x1 r0_1) (View.ld x2 r0_2)
      (View.ld x3 r0_3) (View.ld x4 r0_4) ⟨k, hk⟩) (hL : View.PiecesOf (blockOut x0 x1 x2 x3 x4) L) :
    View.PiecesOf (blockOut x0 x1 x2 x3 x4) (⟨Rect.unit (s := S12x9x32x32) ![j, k, 0, 0] S1x1x32x32.size inb, p⟩ :: L) :=
  ⟨fun y => tile x0 x1 x2 x3 x4 hj hk (inb := inb) h y, hL⟩

set_option maxRecDepth 8192 in
/-- The body's 108 stores together leave `blockOut`. -/
theorem out_eq : out0_5 x0 x1 x2 x3 x4 = blockOut x0 x1 x2 x3 x4 := by
  funext y
  unfold out0_5
  dsimp only
  refine View.canon_apply_of_pieces (blockOut x0 x1 x2 x3 x4) _ ?_ y ?_
  · refine View.PiecesOf.mem ?_
    repeat' refine tiles_cons x0 x1 x2 x3 x4 (by decide) (by decide) rfl ?_
    trivial
  · apply cover0_5

end Cert.Hog

end
-- ==== Proof.Hog.Array.lean ====
/-
The kernel's array after the run, entry by entry: image `n`, bin `k`, cell `(r, c)` is the normalised bin of the
padded image `n` as the region finds it.
-/
module

public import proofs.«01_k».proof.Proof.Gen.KernelIdeal.Value
public import proofs.«01_k».proof.Proof.Hog.Out

@[expose] public section

set_option maxRecDepth 16384

noncomputable section

namespace Cert.Hog

open Cert.KernelIdeal Cert.KernelIdeal.Gen Idealize.ShloMosaic Idealize.ShloMosaic.Pipeline

variable {F : FTy → Type} [FloatOps F] (m : (ℓ : Loc nD τ sig) → Buf (Elt F) ℓ)

/-- The array the kernel leaves, as a function of the arrays the region finds. -/
def whole (x : Vec F S96x226x226 .bf16) (d : Vec F S226x512 .bf16) (w : Vec F S224x224 .f32) (p : Vec F S32x224 .f32) (q : Vec F S224x32 .f32) :
    Vec F S96x9x32x32 .f32 :=
  fun i => normed (bins (fun y => x (ix3 (i 0) (y 1) (y 2))) d w p q) (i 1) (ix2 (i 2) (i 3))

/-- Which block each window takes at each point: block `t` for the images and for the output, the one block otherwise. -/
theorem points : ∀ t : Fin grid0.N, win0_0.index t = ![t.val, 0, 0] ∧ win0_1.index t = ![0, 0] ∧ win0_2.index t = ![0, 0] ∧
    win0_3.index t = ![0, 0] ∧ win0_4.index t = ![0, 0] ∧ win0_5.index t = ![t.val, 0, 0, 0] := by decide +kernel

/-- Image `a` of the block of images at point `t` is image `12 t + a` of the array. -/
theorem block0 (c : Dev nD) (t : Fin grid0.N) (a : Fin 12) (n : Fin 96) (hn : n.val = t.val * 12 + a.val) :
    plane (iblk m c 0 t) a = fun z => V m c main_v2 (ix3 n (z 1) (z 2)) := by
  obtain ⟨e0, -⟩ := points t
  funext z
  rw [plane]
  blk_ext [iblk, e0]

/-- The tap matrix is one block. -/
theorem block1 (c : Dev nD) (t : Fin grid0.N) : iblk m c 1 t = V m c main_cst := by
  obtain ⟨-, e1, -⟩ := points t
  funext z
  blk_ext [iblk, e1]

/-- The window of weights is one block. -/
theorem block2 (c : Dev nD) (t : Fin grid0.N) : iblk m c 2 t = V m c main_v24 := by
  obtain ⟨-, -, e2, -⟩ := points t
  funext z
  blk_ext [iblk, e2]

/-- The first pooling matrix is one block. -/
theorem block3 (c : Dev nD) (t : Fin grid0.N) : iblk m c 3 t = V m c main_cst_0 := by
  obtain ⟨-, -, -, e3, -⟩ := points t
  funext z
  blk_ext [iblk, e3]

/-- The second pooling matrix is one block. -/
theorem block4 (c : Dev nD) (t : Fin grid0.N) : iblk m c 4 t = V m c main_cst_1 := by
  obtain ⟨-, -, -, -, e4, -⟩ := points t
  funext z
  blk_ext [iblk, e4]

/-- Where the output block at point `t` lies in the array. -/
theorem place (t : Fin grid0.N) (y : S12x9x32x32.Idx) :
    ((win0_5.blk t).view.emb y 0).val = t.val * 12 + (y 0).val ∧ (win0_5.blk t).view.emb y 1 = y 1 ∧
      (win0_5.blk t).view.emb y 2 = y 2 ∧ (win0_5.blk t).view.emb y 3 = y 3 := by
  obtain ⟨-, -, -, -, -, e5⟩ := points t
  refine ⟨?_, Fin.ext ?_, Fin.ext ?_, Fin.ext ?_⟩ <;>
    exact (Window.rect_emb_val _ _ _ _ rfl).trans (by rw [e5]; simp)

/-- The output window's array after all eight points. -/
theorem arr_eq (c : Dev nD) : (dats m 0 c).arrAt 5 (cfgs 0).N =
    whole (V m c main_v2) (V m c main_cst) (V m c main_v24) (V m c main_cst_0) (V m c main_cst_1) := by
  refine (dats m 0 c).arrAt_eq_of_covers 5 _ (by decide +kernel) fun t hf y => ?_
  blk_simp
  rw [after0_5, out_eq, whole, blockOut]
  obtain ⟨k0, k1, k2, k3⟩ := place t y
  rw [block0 m c t (y 0) _ k0, block1, block2, block3, block4, k1, k2, k3]

end Cert.Hog

end
-- ==== Proof.Hog.Cell.lean ====
/-
One cell of the result: the kernel's nine sums and its scaled values are the reference's where the mask is set.
-/
module

public import proofs.«01_k».proof.Proof.Hog.Mask
public import proofs.«01_k».proof.Proof.Hog.Ref
public import proofs.«01_k».proof.Proof.Hog.Array

@[expose] public section

set_option maxRecDepth 16384

noncomputable section

namespace Cert.Hog

open Cert.KernelIdeal Cert.KernelIdeal.Gen Idealize.ShloMosaic Idealize.ShloMosaic.StableHlo

/-- Off the four lines the slot of the folded gradient and the ninth of the half turn name the same bin, unless the
    magnitude is zero and it does not matter. -/
theorem same_term (k : Fin 9) {a b : ℝ} (h : Off a b) (w : EReal) [Decidable (slot k (fold a b) |a|)] :
    (if slot k (fold a b) |a| then Ideal.sqrt ((a : EReal) * a + (b : EReal) * b) * w else 0) =
      if ninth a b % 9 = k.val then Ideal.sqrt ((a : EReal) * a + (b : EReal) * b) * w else 0 := by
  by_cases hab : a ≠ 0 ∨ b ≠ 0
  · simp only [slot_iff k hab h]
  · obtain ⟨rfl, rfl⟩ : a = 0 ∧ b = 0 := by simpa [not_or] using hab
    have : Ideal.sqrt (((0 : ℝ) : EReal) * ((0 : ℝ) : EReal) + ((0 : ℝ) : EReal) * ((0 : ℝ) : EReal)) = 0 := by
      rw [← EReal.coe_mul, ← EReal.coe_add]
      have : ∀ y : ℝ, 0 ≤ y → Ideal.sqrt (y : EReal) = ((Real.sqrt y : ℝ) : EReal) := fun y hy => if_neg (not_lt.2 hy)
      rw [this _ (by simp)]
      simp
    rw [this, zero_mul, ite_self, ite_self]

/-- The kernel's sum for one bin of one cell is the reference's, where every pixel of the cell's window is clear. -/
theorem bins_eq (V0 : Valuation Cert.ReferenceIdeal.τ Cert.ReferenceIdeal.sig (Elt Ideal)) (x : Vec Ideal S96x226x226 .bf16)
    (d : Vec Ideal S226x512 .bf16) (p : Vec Ideal S32x224 .f32) (q : Vec Ideal S224x32 .f32) (hd : IsTaps d) (hp : IsRows p) (hq : IsCols q)
    (n : Fin 32) (h : Fin 3) (r c : Fin 32)
    (hx : ∀ i j : Fin 226, (x (ix3 ⟨3 * n.val + h.val, by omega⟩ i j) : EReal) = (padded (F := Ideal) (V0 (Proc.devRef .tc Cert.ReferenceIdeal.main_arg0)) (ix4 n h i j) : EReal))
    (clear : ∀ a b : Fin 7, ∃ gx gy : ℝ,
      imageX (padded (F := Ideal) (V0 (Proc.devRef .tc Cert.ReferenceIdeal.main_arg0))) (ix4 n h (within r a) (within c b)) = (gx : EReal) ∧
      imageY (padded (F := Ideal) (V0 (Proc.devRef .tc Cert.ReferenceIdeal.main_arg0))) (ix4 n h (within r a) (within c b)) = (gy : EReal) ∧ Off gx gy)
    (k : Fin 9) :
    (bins (fun y => x (ix3 ⟨3 * n.val + h.val, by omega⟩ (y 1) (y 2))) d (weights (F := Ideal)) p q k (ix2 r c) : EReal) =
      Cert.ReferenceIdeal.Value.res_main_v101 V0 (ix5 n h k r c) := by
  rw [ref_hist, sum_cells, Fintype.sum_prod_type, Finset.sum_comm, bins, binned, pool_apply p q hp hq]
  refine Finset.sum_congr rfl fun b _ => Finset.sum_congr rfl fun a _ => ?_
  obtain ⟨gx, gy, ex, ey, off⟩ := clear a b
  have patches : patch (fun y => x (ix3 ⟨3 * n.val + h.val, by omega⟩ (y 1) (y 2))) (within r a) (within c b) =
      around (padded (F := Ideal) (V0 (Proc.devRef .tc Cert.ReferenceIdeal.main_arg0))) n h (within r a) (within c b) := by
    funext i j
    exact hx _ _
  have fx : gradX (taps (fun y => x (ix3 ⟨3 * n.val + h.val, by omega⟩ (y 1) (y 2))) d) (ix2 (within r a) (within c b)) = (gx : EReal) := by
    rw [gradX_apply _ d hd, patches, kerX_eq _ ⟨gx, (imageX_apply _ _ _ _ _).symm.trans ex⟩, ← imageX_apply, ex]
  have fy : gradY (taps (fun y => x (ix3 ⟨3 * n.val + h.val, by omega⟩ (y 1) (y 2))) d) (ix2 (within r a) (within c b)) = (gy : EReal) := by
    rw [gradY_apply _ d hd, patches, kerY_eq _ ⟨gy, (imageY_apply _ _ _ _ _).symm.trans ey⟩, ← imageY_apply, ey]
  classical
  rw [kept k _ _ weights _ _ fx fy, same_term k off]
  exact (refTerm_apply V0 n h k _ _ (by rw [ref_gradX, ex]) (by rw [ref_gradY, ey])).symm

/-- Multiplying by the reciprocal of a divisor that is not zero is dividing by it. -/
theorem mul_recip (x y : EReal) (hy : y ≠ 0) : x * Ideal.div 1 y = Ideal.div x y := by
  rw [Ideal.div, Ideal.div, if_neg hy, if_neg hy, one_mul]

/-- The larger of anything and the least divisor is not zero. -/
theorem max_least (x : EReal) : max x (Ideal.ofBits .f32 0x2B8CBCCC#32) ≠ 0 := by
  obtain ⟨y, hy, e⟩ := word_least
  rw [e]
  exact (lt_of_lt_of_le (EReal.coe_pos.2 hy) (le_max_right _ _)).ne'

/-- The kernel's scaling of nine sums. -/
theorem normed_apply (b : Fin 9 → FVec Ideal S32x32 .f32) (k : Fin 9) (r c : Fin 32) : (normed b k (ix2 r c) : EReal) =
    Ideal.div (b k (ix2 r c)) (max (Ideal.sqrt (∑ j : Fin 9, b j (ix2 r c) * b j (ix2 r c))) (Ideal.ofBits .f32 0x2B8CBCCC#32)) := by
  pointwise [normed, scale, squares]
  rw [mul_recip _ _ (max_least _)]
  simp only [Fin.sum_univ_castSucc]
  simp
  done

end Cert.Hog

end
-- ==== Proof.Hog.TapsLow.lean ====
/-
The upper half of the first literal is the tap matrix.
-/
module

public import proofs.«01_k».proof.Proof.Hog.Words

@[expose] public section

set_option maxRecDepth 100000

namespace Cert.Hog

/-- Rows 0 to 14 of the first literal. -/
theorem tapRows0 : TapRows 0 := by decide +kernel

/-- Rows 15 to 29 of the first literal. -/
theorem tapRows1 : TapRows 1 := by decide +kernel

/-- Rows 30 to 44 of the first literal. -/
theorem tapRows2 : TapRows 2 := by decide +kernel

/-- Rows 45 to 59 of the first literal. -/
theorem tapRows3 : TapRows 3 := by decide +kernel

/-- Rows 60 to 74 of the first literal. -/
theorem tapRows4 : TapRows 4 := by decide +kernel

/-- Rows 75 to 89 of the first literal. -/
theorem tapRows5 : TapRows 5 := by decide +kernel

/-- Rows 90 to 104 of the first literal. -/
theorem tapRows6 : TapRows 6 := by decide +kernel

/-- Rows 105 to 119 of the first literal. -/
theorem tapRows7 : TapRows 7 := by decide +kernel

end Cert.Hog

end
-- ==== Proof.Hog.TapsHigh.lean ====
/-
The lower half of the first literal is the tap matrix.
-/
module

public import proofs.«01_k».proof.Proof.Hog.Words

@[expose] public section

set_option maxRecDepth 100000

namespace Cert.Hog

/-- Rows 120 to 134 of the first literal. -/
theorem tapRows8 : TapRows 8 := by decide +kernel

/-- Rows 135 to 149 of the first literal. -/
theorem tapRows9 : TapRows 9 := by decide +kernel

/-- Rows 150 to 164 of the first literal. -/
theorem tapRows10 : TapRows 10 := by decide +kernel

/-- Rows 165 to 179 of the first literal. -/
theorem tapRows11 : TapRows 11 := by decide +kernel

/-- Rows 180 to 194 of the first literal. -/
theorem tapRows12 : TapRows 12 := by decide +kernel

/-- Rows 195 to 209 of the first literal. -/
theorem tapRows13 : TapRows 13 := by decide +kernel

/-- Rows 210 to 224 of the first literal. -/
theorem tapRows14 : TapRows 14 := by decide +kernel

/-- Row 225 of the first literal. -/
theorem tapRows15 : TapRows 15 := by decide +kernel

end Cert.Hog

end
-- ==== Proof.Hog.Tables.lean ====
/-
The kernel's three literal matrices are the tap matrix and the two pooling matrices.
-/
module

public import proofs.«01_k».proof.Proof.Hog.TapsLow
public import proofs.«01_k».proof.Proof.Hog.TapsHigh
public import Mathlib.Tactic.IntervalCases
public import Mathlib.Tactic.NormNum

@[expose] public section

set_option maxRecDepth 100000

namespace Cert.Hog

open Cert.KernelIdeal

/-- The first literal is the tap matrix. -/
theorem lit0_eq (j : Fin 226) (l : Fin 512) : lit0t (512 * j.val + l.val) = tapWord j.val l.val := by
  have h : ∀ s, s < 16 → TapRows s := by
    intro s hs
    interval_cases s
    exacts [tapRows0, tapRows1, tapRows2, tapRows3, tapRows4, tapRows5, tapRows6, tapRows7,
      tapRows8, tapRows9, tapRows10, tapRows11, tapRows12, tapRows13, tapRows14, tapRows15]
  have := h (j.val / 15) (by omega) ⟨j.val % 15, Nat.mod_lt _ (by norm_num)⟩ l
  simpa only [Nat.div_add_mod] using this

/-- The second literal is the pooling matrix. -/
theorem lit1_eq : ∀ r : Fin 32, ∀ l : Fin 224, lit1t (224 * r.val + l.val) = poolWord r.val l.val := by decide +kernel

/-- The third literal is the pooling matrix transposed. -/
theorem lit2_eq : ∀ l : Fin 224, ∀ r : Fin 32, lit2t (32 * l.val + r.val) = poolWord r.val l.val := by decide +kernel

end Cert.Hog

end
-- ==== Proof.Hog.Final.lean ====
/-
The whole result: the kernel's array is the reference's wherever the mask is set.
-/
module

public import proofs.«01_k».proof.Proof.Hog.Cell
public import proofs.«01_k».proof.Proof.Hog.Tables
public import proofs.«01_k».proof.Proof.Gen.KernelIdeal.Value
public import proofs.«01_k».proof.Proof.Gen.ReferenceIdeal.Run

@[expose] public section

set_option maxRecDepth 16384

noncomputable section

namespace Cert.Hog

section tables

open Cert.KernelIdeal Cert.KernelIdeal.Gen Idealize.ShloMosaic

/-- The first literal's array holds the taps. -/
theorem isTaps : IsTaps (fun i => FloatOps.ofBits (F := Ideal) .bf16 (lit0 (S226x512.rowMajor i))) := by
  intro j l
  have e : (S226x512.rowMajor (ix2 j l)).val = 512 * j.val + l.val := by
    rw [rowMajor_val2 _ 512 rfl, Nat.mul_comm]
    rfl
  exact congrArg (Ideal.ofBits .bf16) ((congrArg lit0t e).trans (lit0_eq j l))

/-- The second literal's array is the pooling matrix. -/
theorem isRows : IsRows (fun i => FloatOps.ofBits (F := Ideal) .f32 (lit1 (S32x224.rowMajor i))) := by
  intro r l
  have e : (S32x224.rowMajor (ix2 r l)).val = 224 * r.val + l.val := by
    rw [rowMajor_val2 _ 224 rfl, Nat.mul_comm]
    rfl
  exact congrArg (Ideal.ofBits .f32) ((congrArg lit1t e).trans (lit1_eq r l))

/-- The third literal's array is the pooling matrix transposed. -/
theorem isCols : IsCols (fun i => FloatOps.ofBits (F := Ideal) .f32 (lit2 (S224x32.rowMajor i))) := by
  intro l r
  have e : (S224x32.rowMajor (ix2 l r)).val = 32 * l.val + r.val := by
    rw [rowMajor_val2 _ 32 rfl, Nat.mul_comm]
    rfl
  exact congrArg (Ideal.ofBits .f32) ((congrArg lit2t e).trans (lit2_eq l r))

end tables

section reference

open Cert.ReferenceIdeal Cert.ReferenceIdeal.Gen Cert.ReferenceIdeal.Value Idealize.ShloMosaic Idealize.ShloMosaic.StableHlo

/-- The reference's scaling of a histogram. -/
def refOut (v : FVec Ideal S32x3x9x32x32 .f32) : FVec Ideal S96x9x32x32 .f32 :=
  shapeCast S96x9x32x32 (Host.divf v (broadcastInDim S32x3x9x32x32 ![0, 1, 2, 3, 4] bcast_S32x3x1x32x32_S32x3x9x32x32_0_1_2_3_4
    (maximumf (Host.sqrt (broadcastInDim S32x3x1x32x32 ![0, 1, 3, 4] bcast_S32x3x32x32_S32x3x1x32x32_0_1_3_4
        (Host.reduceAdd (mulf v v) (constant S_ .f32 0x00000000#32) reducesTo_S32x3x9x32x32_S32x3x32x32_d2 h_S_)))
      (broadcastInDim S32x3x1x32x32 ![] bcast_S_S32x3x1x32x32 (constant S_ .f32 0x2B8CBCCC#32))))) shapeCasts_S32x3x9x32x32_S96x9x32x32

/-- It divides each of a cell's nine sums by the larger of their norm and the least divisor. -/
theorem refOut_apply (v : FVec Ideal S32x3x9x32x32 .f32) (n : Fin 32) (h : Fin 3) (k : Fin 9) (r c : Fin 32) :
    (refOut v (ix4 ⟨3 * n.val + h.val, by omega⟩ k r c) : EReal) = Ideal.div (v (ix5 n h k r c))
      (max (Ideal.sqrt (∑ j : Fin 9, v (ix5 n h j r c) * v (ix5 n h j r c))) (Ideal.ofBits .f32 0x2B8CBCCC#32)) := by
  pointwise [refOut]

end reference

open Cert.KernelIdeal Cert.KernelIdeal.Gen Idealize.ShloMosaic Idealize.ShloMosaic.StableHlo

/-- Wherever the mask is set, the array the kernel leaves holds the reference's result. -/
theorem result_eq (m : (ℓ : Loc nD τ sig) → Buf (Elt Ideal) ℓ) (c : Dev nD)
    (V0 : Valuation Cert.ReferenceIdeal.τ Cert.ReferenceIdeal.sig (Elt Ideal))
    (hV : V0 (Proc.devRef .tc Cert.ReferenceIdeal.main_arg0) = m ((c.tc : Thread nD τ).loc main_arg0))
    (i : S96x9x32x32.Idx) (hi : Cert.On_clear.fn (F := Ideal) (m ((c.tc : Thread nD τ).loc main_arg0)) i = 1#1) :
    (dats m 0 c).arrAt 5 (cfgs 0).N i = refOut (Cert.ReferenceIdeal.Value.res_main_v101 V0) i := by
  obtain ⟨n, h, k, r, s, rfl⟩ : ∃ (n : Fin 32) (h : Fin 3) (k : Fin 9) (r s : Fin 32), i = ix4 ⟨3 * n.val + h.val, by omega⟩ k r s := by
    have e : i = ix4 (i 0) (i 1) (i 2) (i 3) := (ix4_eta i).symm
    have lt : (i 0).val < 96 := (i 0).isLt
    exact ⟨⟨(i 0).val / 3, by omega⟩, ⟨(i 0).val % 3, by omega⟩, i 1, i 2, i 3,
      e.trans (congrArg (fun t : Fin 96 => (ix4 t (i 1) (i 2) (i 3) : S96x9x32x32.Idx)) (Fin.ext (Nat.div_add_mod _ 3).symm))⟩
  have sums := fun j : Fin 9 => bins_eq V0 (V m c main_v2) (V m c main_cst) (V m c main_cst_0) (V m c main_cst_1)
    (by rw [entry_taps]; exact isTaps) (by rw [entry_rows]; exact isRows) (by rw [entry_cols]; exact isCols) n h r s
    (by
      intro a b
      rw [entry_images, ← hV]
      pointwise)
    (fun a b => by
      rw [hV]
      exact mask_apply _ n h k r s hi a b) j
  rw [arr_eq, refOut_apply, entry_weights]
  refine (normed_apply _ k r s).trans ?_
  simp only [← sums]
  rfl

end Cert.Hog

end
-- ==== Proof.lean ====
/-
The certificate: both programs and the reference run and leave their argument alone, and where the mask is set the
kernel's result is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.On_clear
public import proofs.«01_k».proof.Proof.Hog.Final
public import Idealize.ShloMosaic.Lib.Quiescent

@[expose] public section

set_option maxRecDepth 16384

noncomputable section

namespace Cert.Proof

open Idealize.ShloMosaic Idealize.SL.Sem

/-- The reference runs, leaves its argument alone and ends with every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- Where the mask is set the two results are equal. -/
theorem results : Cert.algebraic_KernelIdeal_ReferenceIdeal_on_clear (hKernelIdeal := Cert.KernelIdeal.Gen.facts)
    (hReferenceIdeal := Cert.ReferenceIdeal.Gen.facts) (hOn_clear := Cert.On_clear.Gen.facts) := by
  intro m g m' g' _ same
  refine ⟨fun c => Cert.Hog.refOut (Cert.ReferenceIdeal.Value.res_main_v101 (StableHlo.launchContents m' c)), ?_, ?_⟩
  · refine (θ_run _ _ _).mono (fun r h c => ⟨fun i hi => ?_, (h c).2⟩) (Cert.KernelIdeal.Value.run_blocks m g)
    rw [(h c).1]
    exact Cert.Hog.result_eq m c _ (same c) i hi
  · exact (θ_run _ _ _).mono (fun r h c => ⟨fun i _ => congrFun (h c).1 i, (h c).2⟩) (Cert.ReferenceIdeal.Value.run m' g')

/-- Everything claimed. -/
theorem claim : Cert.Claim :=
  ⟨Cert.Kernel.Gen.facts, Cert.KernelIdeal.Gen.facts, Cert.ReferenceIdeal.Gen.facts, Cert.On_clear.Gen.facts,
    fun m ρ _ => Cert.Kernel.Gen.frame m ρ, fun m ρ _ => Cert.KernelIdeal.Gen.frame m ρ, reference_frame, trivial, results⟩

end Cert.Proof

end
